-- ==== Defs.lean ====
def Pre_MlpVid (m : (ℓ : Loc Cert.MlpVid.nD Cert.MlpVid.τ Cert.MlpVid.sig) → Buf (Elt Bits) ℓ) : Prop :=
  True

def Pre_MlpVidIdeal (m : (ℓ : Loc Cert.MlpVidIdeal.nD Cert.MlpVidIdeal.τ Cert.MlpVidIdeal.sig) → Buf (Elt Ideal) ℓ) : Prop :=
  True

def Pre_MlpVidRefIdeal (m : (ℓ : Loc Cert.MlpVidRefIdeal.nD Cert.MlpVidRefIdeal.τ Cert.MlpVidRefIdeal.sig) → Buf (Elt Ideal) ℓ) : Prop :=
  True

def quiescent_MlpVid [hMlpVid : Cert.MlpVid.Facts] : Prop :=
  ∀ (m : (ℓ : Loc Cert.MlpVid.nD Cert.MlpVid.τ Cert.MlpVid.sig) → Buf (Elt Bits) ℓ) (g : Dev Cert.MlpVid.nD → PrngReg), Pre_MlpVid m →
    θ_run (Cert.MlpVid.defs (F := Bits)) (onTc (τ := Cert.MlpVid.τ) (Cert.MlpVid.main (F := Bits))) ⟨m, fun _ => 0, g⟩ (fun r => (∀ c : Dev Cert.MlpVid.nD,
      r.2.mem ((c.tc : Thread Cert.MlpVid.nD Cert.MlpVid.τ).loc Cert.MlpVid.main_arg0) = m ((c.tc : Thread Cert.MlpVid.nD Cert.MlpVid.τ).loc Cert.MlpVid.main_arg0)
      ∧ r.2.mem ((c.tc : Thread Cert.MlpVid.nD Cert.MlpVid.τ).loc Cert.MlpVid.main_arg1) = m ((c.tc : Thread Cert.MlpVid.nD Cert.MlpVid.τ).loc Cert.MlpVid.main_arg1)
      ∧ r.2.mem ((c.tc : Thread Cert.MlpVid.nD Cert.MlpVid.τ).loc Cert.MlpVid.main_arg2) = m ((c.tc : Thread Cert.MlpVid.nD Cert.MlpVid.τ).loc Cert.MlpVid.main_arg2)
      ∧ r.2.mem ((c.tc : Thread Cert.MlpVid.nD Cert.MlpVid.τ).loc Cert.MlpVid.main_arg3) = m ((c.tc : Thread Cert.MlpVid.nD Cert.MlpVid.τ).loc Cert.MlpVid.main_arg3)
      ∧ r.2.mem ((c.tc : Thread Cert.MlpVid.nD Cert.MlpVid.τ).loc Cert.MlpVid.main_arg4) = m ((c.tc : Thread Cert.MlpVid.nD Cert.MlpVid.τ).loc Cert.MlpVid.main_arg4)
      ∧ r.2.mem ((c.tc : Thread Cert.MlpVid.nD Cert.MlpVid.τ).loc Cert.MlpVid.main_arg5) = m ((c.tc : Thread Cert.MlpVid.nD Cert.MlpVid.τ).loc Cert.MlpVid.main_arg5)
      ∧ r.2.mem ((c.tc : Thread Cert.MlpVid.nD Cert.MlpVid.τ).loc Cert.MlpVid.main_arg6) = m ((c.tc : Thread Cert.MlpVid.nD Cert.MlpVid.τ).loc Cert.MlpVid.main_arg6)
      ∧ r.2.mem ((c.tc : Thread Cert.MlpVid.nD Cert.MlpVid.τ).loc Cert.MlpVid.main_arg7) = m ((c.tc : Thread Cert.MlpVid.nD Cert.MlpVid.τ).loc Cert.MlpVid.main_arg7)
      ∧ r.2.mem ((c.tc : Thread Cert.MlpVid.nD Cert.MlpVid.τ).loc Cert.MlpVid.main_arg8) = m ((c.tc : Thread Cert.MlpVid.nD Cert.MlpVid.τ).loc Cert.MlpVid.main_arg8)
      ∧ r.2.mem ((c.tc : Thread Cert.MlpVid.nD Cert.MlpVid.τ).loc Cert.MlpVid.main_arg9) = m ((c.tc : Thread Cert.MlpVid.nD Cert.MlpVid.τ).loc Cert.MlpVid.main_arg9)
      ∧ r.2.mem ((c.tc : Thread Cert.MlpVid.nD Cert.MlpVid.τ).loc Cert.MlpVid.main_arg10) = m ((c.tc : Thread Cert.MlpVid.nD Cert.MlpVid.τ).loc Cert.MlpVid.main_arg10))
      ∧ r.2.sem = fun _ => 0)

def quiescent_MlpVidIdeal [hMlpVidIdeal : Cert.MlpVidIdeal.Facts] : Prop :=
  ∀ (m : (ℓ : Loc Cert.MlpVidIdeal.nD Cert.MlpVidIdeal.τ Cert.MlpVidIdeal.sig) → Buf (Elt Ideal) ℓ) (g : Dev Cert.MlpVidIdeal.nD → PrngReg), Pre_MlpVidIdeal m →
    θ_run (Cert.MlpVidIdeal.defs (F := Ideal)) (onTc (τ := Cert.MlpVidIdeal.τ) (Cert.MlpVidIdeal.main (F := Ideal))) ⟨m, fun _ => 0, g⟩ (fun r => (∀ c : Dev Cert.MlpVidIdeal.nD,
      r.2.mem ((c.tc : Thread Cert.MlpVidIdeal.nD Cert.MlpVidIdeal.τ).loc Cert.MlpVidIdeal.main_arg0) = m ((c.tc : Thread Cert.MlpVidIdeal.nD Cert.MlpVidIdeal.τ).loc Cert.MlpVidIdeal.main_arg0)
      ∧ r.2.mem ((c.tc : Thread Cert.MlpVidIdeal.nD Cert.MlpVidIdeal.τ).loc Cert.MlpVidIdeal.main_arg1) = m ((c.tc : Thread Cert.MlpVidIdeal.nD Cert.MlpVidIdeal.τ).loc Cert.MlpVidIdeal.main_arg1)
      ∧ r.2.mem ((c.tc : Thread Cert.MlpVidIdeal.nD Cert.MlpVidIdeal.τ).loc Cert.MlpVidIdeal.main_arg2) = m ((c.tc : Thread Cert.MlpVidIdeal.nD Cert.MlpVidIdeal.τ).loc Cert.MlpVidIdeal.main_arg2)
      ∧ r.2.mem ((c.tc : Thread Cert.MlpVidIdeal.nD Cert.MlpVidIdeal.τ).loc Cert.MlpVidIdeal.main_arg3) = m ((c.tc : Thread Cert.MlpVidIdeal.nD Cert.MlpVidIdeal.τ).loc Cert.MlpVidIdeal.main_arg3)
      ∧ r.2.mem ((c.tc : Thread Cert.MlpVidIdeal.nD Cert.MlpVidIdeal.τ).loc Cert.MlpVidIdeal.main_arg4) = m ((c.tc : Thread Cert.MlpVidIdeal.nD Cert.MlpVidIdeal.τ).loc Cert.MlpVidIdeal.main_arg4)
      ∧ r.2.mem ((c.tc : Thread Cert.MlpVidIdeal.nD Cert.MlpVidIdeal.τ).loc Cert.MlpVidIdeal.main_arg5) = m ((c.tc : Thread Cert.MlpVidIdeal.nD Cert.MlpVidIdeal.τ).loc Cert.MlpVidIdeal.main_arg5)
      ∧ r.2.mem ((c.tc : Thread Cert.MlpVidIdeal.nD Cert.MlpVidIdeal.τ).loc Cert.MlpVidIdeal.main_arg6) = m ((c.tc : Thread Cert.MlpVidIdeal.nD Cert.MlpVidIdeal.τ).loc Cert.MlpVidIdeal.main_arg6)
      ∧ r.2.mem ((c.tc : Thread Cert.MlpVidIdeal.nD Cert.MlpVidIdeal.τ).loc Cert.MlpVidIdeal.main_arg7) = m ((c.tc : Thread Cert.MlpVidIdeal.nD Cert.MlpVidIdeal.τ).loc Cert.MlpVidIdeal.main_arg7)
      ∧ r.2.mem ((c.tc : Thread Cert.MlpVidIdeal.nD Cert.MlpVidIdeal.τ).loc Cert.MlpVidIdeal.main_arg8) = m ((c.tc : Thread Cert.MlpVidIdeal.nD Cert.MlpVidIdeal.τ).loc Cert.MlpVidIdeal.main_arg8)
      ∧ r.2.mem ((c.tc : Thread Cert.MlpVidIdeal.nD Cert.MlpVidIdeal.τ).loc Cert.MlpVidIdeal.main_arg9) = m ((c.tc : Thread Cert.MlpVidIdeal.nD Cert.MlpVidIdeal.τ).loc Cert.MlpVidIdeal.main_arg9)
      ∧ r.2.mem ((c.tc : Thread Cert.MlpVidIdeal.nD Cert.MlpVidIdeal.τ).loc Cert.MlpVidIdeal.main_arg10) = m ((c.tc : Thread Cert.MlpVidIdeal.nD Cert.MlpVidIdeal.τ).loc Cert.MlpVidIdeal.main_arg10))
      ∧ r.2.sem = fun _ => 0)

def quiescent_MlpVidRefIdeal [hMlpVidRefIdeal : Cert.MlpVidRefIdeal.Facts] : Prop :=
  ∀ (m : (ℓ : Loc Cert.MlpVidRefIdeal.nD Cert.MlpVidRefIdeal.τ Cert.MlpVidRefIdeal.sig) → Buf (Elt Ideal) ℓ) (g : Dev Cert.MlpVidRefIdeal.nD → PrngReg), Pre_MlpVidRefIdeal m →
    θ_run (Cert.MlpVidRefIdeal.defs (F := Ideal)) (onTc (τ := Cert.MlpVidRefIdeal.τ) (Cert.MlpVidRefIdeal.main (F := Ideal))) ⟨m, fun _ => 0, g⟩ (fun r => (∀ c : Dev Cert.MlpVidRefIdeal.nD,
      r.2.mem ((c.tc : Thread Cert.MlpVidRefIdeal.nD Cert.MlpVidRefIdeal.τ).loc Cert.MlpVidRefIdeal.main_arg0) = m ((c.tc : Thread Cert.MlpVidRefIdeal.nD Cert.MlpVidRefIdeal.τ).loc Cert.MlpVidRefIdeal.main_arg0)
      ∧ r.2.mem ((c.tc : Thread Cert.MlpVidRefIdeal.nD Cert.MlpVidRefIdeal.τ).loc Cert.MlpVidRefIdeal.main_arg1) = m ((c.tc : Thread Cert.MlpVidRefIdeal.nD Cert.MlpVidRefIdeal.τ).loc Cert.MlpVidRefIdeal.main_arg1)
      ∧ r.2.mem ((c.tc : Thread Cert.MlpVidRefIdeal.nD Cert.MlpVidRefIdeal.τ).loc Cert.MlpVidRefIdeal.main_arg2) = m ((c.tc : Thread Cert.MlpVidRefIdeal.nD Cert.MlpVidRefIdeal.τ).loc Cert.MlpVidRefIdeal.main_arg2)
      ∧ r.2.mem ((c.tc : Thread Cert.MlpVidRefIdeal.nD Cert.MlpVidRefIdeal.τ).loc Cert.MlpVidRefIdeal.main_arg3) = m ((c.tc : Thread Cert.MlpVidRefIdeal.nD Cert.MlpVidRefIdeal.τ).loc Cert.MlpVidRefIdeal.main_arg3)
      ∧ r.2.mem ((c.tc : Thread Cert.MlpVidRefIdeal.nD Cert.MlpVidRefIdeal.τ).loc Cert.MlpVidRefIdeal.main_arg4) = m ((c.tc : Thread Cert.MlpVidRefIdeal.nD Cert.MlpVidRefIdeal.τ).loc Cert.MlpVidRefIdeal.main_arg4)
      ∧ r.2.mem ((c.tc : Thread Cert.MlpVidRefIdeal.nD Cert.MlpVidRefIdeal.τ).loc Cert.MlpVidRefIdeal.main_arg5) = m ((c.tc : Thread Cert.MlpVidRefIdeal.nD Cert.MlpVidRefIdeal.τ).loc Cert.MlpVidRefIdeal.main_arg5)
      ∧ r.2.mem ((c.tc : Thread Cert.MlpVidRefIdeal.nD Cert.MlpVidRefIdeal.τ).loc Cert.MlpVidRefIdeal.main_arg6) = m ((c.tc : Thread Cert.MlpVidRefIdeal.nD Cert.MlpVidRefIdeal.τ).loc Cert.MlpVidRefIdeal.main_arg6)
      ∧ r.2.mem ((c.tc : Thread Cert.MlpVidRefIdeal.nD Cert.MlpVidRefIdeal.τ).loc Cert.MlpVidRefIdeal.main_arg7) = m ((c.tc : Thread Cert.MlpVidRefIdeal.nD Cert.MlpVidRefIdeal.τ).loc Cert.MlpVidRefIdeal.main_arg7)
      ∧ r.2.mem ((c.tc : Thread Cert.MlpVidRefIdeal.nD Cert.MlpVidRefIdeal.τ).loc Cert.MlpVidRefIdeal.main_arg8) = m ((c.tc : Thread Cert.MlpVidRefIdeal.nD Cert.MlpVidRefIdeal.τ).loc Cert.MlpVidRefIdeal.main_arg8)
      ∧ r.2.mem ((c.tc : Thread Cert.MlpVidRefIdeal.nD Cert.MlpVidRefIdeal.τ).loc Cert.MlpVidRefIdeal.main_arg9) = m ((c.tc : Thread Cert.MlpVidRefIdeal.nD Cert.MlpVidRefIdeal.τ).loc Cert.MlpVidRefIdeal.main_arg9)
      ∧ r.2.mem ((c.tc : Thread Cert.MlpVidRefIdeal.nD Cert.MlpVidRefIdeal.τ).loc Cert.MlpVidRefIdeal.main_arg10) = m ((c.tc : Thread Cert.MlpVidRefIdeal.nD Cert.MlpVidRefIdeal.τ).loc Cert.MlpVidRefIdeal.main_arg10))
      ∧ r.2.sem = fun _ => 0)

def preserves_MlpVid_MlpVidIdeal : Prop :=
  True

def algebraic_MlpVidIdeal_MlpVidRefIdeal [hMlpVidIdeal : Cert.MlpVidIdeal.Facts] [hMlpVidRefIdeal : Cert.MlpVidRefIdeal.Facts] : Prop :=
  ∀ (m : (ℓ : Loc Cert.MlpVidIdeal.nD Cert.MlpVidIdeal.τ Cert.MlpVidIdeal.sig) → Buf (Elt Ideal) ℓ) (g : Dev Cert.MlpVidIdeal.nD → PrngReg)
    (m' : (ℓ : Loc Cert.MlpVidRefIdeal.nD Cert.MlpVidRefIdeal.τ Cert.MlpVidRefIdeal.sig) → Buf (Elt Ideal) ℓ) (g' : Dev Cert.MlpVidRefIdeal.nD → PrngReg), Pre_MlpVidIdeal m →
    (∀ c : Dev Cert.MlpVidIdeal.nD,
      m' ((c.tc : Thread Cert.MlpVidRefIdeal.nD Cert.MlpVidRefIdeal.τ).loc Cert.MlpVidRefIdeal.main_arg0) = m ((c.tc : Thread Cert.MlpVidIdeal.nD Cert.MlpVidIdeal.τ).loc Cert.MlpVidIdeal.main_arg0)
      ∧ m' ((c.tc : Thread Cert.MlpVidRefIdeal.nD Cert.MlpVidRefIdeal.τ).loc Cert.MlpVidRefIdeal.main_arg1) = m ((c.tc : Thread Cert.MlpVidIdeal.nD Cert.MlpVidIdeal.τ).loc Cert.MlpVidIdeal.main_arg1)
      ∧ m' ((c.tc : Thread Cert.MlpVidRefIdeal.nD Cert.MlpVidRefIdeal.τ).loc Cert.MlpVidRefIdeal.main_arg2) = m ((c.tc : Thread Cert.MlpVidIdeal.nD Cert.MlpVidIdeal.τ).loc Cert.MlpVidIdeal.main_arg2)
      ∧ m' ((c.tc : Thread Cert.MlpVidRefIdeal.nD Cert.MlpVidRefIdeal.τ).loc Cert.MlpVidRefIdeal.main_arg3) = m ((c.tc : Thread Cert.MlpVidIdeal.nD Cert.MlpVidIdeal.τ).loc Cert.MlpVidIdeal.main_arg3)
      ∧ m' ((c.tc : Thread Cert.MlpVidRefIdeal.nD Cert.MlpVidRefIdeal.τ).loc Cert.MlpVidRefIdeal.main_arg4) = m ((c.tc : Thread Cert.MlpVidIdeal.nD Cert.MlpVidIdeal.τ).loc Cert.MlpVidIdeal.main_arg4)
      ∧ m' ((c.tc : Thread Cert.MlpVidRefIdeal.nD Cert.MlpVidRefIdeal.τ).loc Cert.MlpVidRefIdeal.main_arg5) = m ((c.tc : Thread Cert.MlpVidIdeal.nD Cert.MlpVidIdeal.τ).loc Cert.MlpVidIdeal.main_arg5)
      ∧ m' ((c.tc : Thread Cert.MlpVidRefIdeal.nD Cert.MlpVidRefIdeal.τ).loc Cert.MlpVidRefIdeal.main_arg6) = m ((c.tc : Thread Cert.MlpVidIdeal.nD Cert.MlpVidIdeal.τ).loc Cert.MlpVidIdeal.main_arg6)
      ∧ m' ((c.tc : Thread Cert.MlpVidRefIdeal.nD Cert.MlpVidRefIdeal.τ).loc Cert.MlpVidRefIdeal.main_arg7) = m ((c.tc : Thread Cert.MlpVidIdeal.nD Cert.MlpVidIdeal.τ).loc Cert.MlpVidIdeal.main_arg7)
      ∧ m' ((c.tc : Thread Cert.MlpVidRefIdeal.nD Cert.MlpVidRefIdeal.τ).loc Cert.MlpVidRefIdeal.main_arg8) = m ((c.tc : Thread Cert.MlpVidIdeal.nD Cert.MlpVidIdeal.τ).loc Cert.MlpVidIdeal.main_arg8)
      ∧ m' ((c.tc : Thread Cert.MlpVidRefIdeal.nD Cert.MlpVidRefIdeal.τ).loc Cert.MlpVidRefIdeal.main_arg9) = m ((c.tc : Thread Cert.MlpVidIdeal.nD Cert.MlpVidIdeal.τ).loc Cert.MlpVidIdeal.main_arg9)
      ∧ m' ((c.tc : Thread Cert.MlpVidRefIdeal.nD Cert.MlpVidRefIdeal.τ).loc Cert.MlpVidRefIdeal.main_arg10) = m ((c.tc : Thread Cert.MlpVidIdeal.nD Cert.MlpVidIdeal.τ).loc Cert.MlpVidIdeal.main_arg10)) →
    ∃ (v0 : (c : Dev Cert.MlpVidIdeal.nD) → Buf (Elt Ideal) ((c.tc : Thread Cert.MlpVidIdeal.nD Cert.MlpVidIdeal.τ).loc Cert.MlpVidIdeal.main_v6_0)) (v1 : (c : Dev Cert.MlpVidIdeal.nD) → Buf (Elt Ideal) ((c.tc : Thread Cert.MlpVidIdeal.nD Cert.MlpVidIdeal.τ).loc Cert.MlpVidIdeal.main_v6_1)) (v2 : (c : Dev Cert.MlpVidIdeal.nD) → Buf (Elt Ideal) ((c.tc : Thread Cert.MlpVidIdeal.nD Cert.MlpVidIdeal.τ).loc Cert.MlpVidIdeal.main_v6_2)) (v3 : (c : Dev Cert.MlpVidIdeal.nD) → Buf (Elt Ideal) ((c.tc : Thread Cert.MlpVidIdeal.nD Cert.MlpVidIdeal.τ).loc Cert.MlpVidIdeal.main_v6_3)) (v4 : (c : Dev Cert.MlpVidIdeal.nD) → Buf (Elt Ideal) ((c.tc : Thread Cert.MlpVidIdeal.nD Cert.MlpVidIdeal.τ).loc Cert.MlpVidIdeal.main_v6_4)) (v5 : (c : Dev Cert.MlpVidIdeal.nD) → Buf (Elt Ideal) ((c.tc : Thread Cert.MlpVidIdeal.nD Cert.MlpVidIdeal.τ).loc Cert.MlpVidIdeal.main_v6_5)) (v6 : (c : Dev Cert.MlpVidIdeal.nD) → Buf (Elt Ideal) ((c.tc : Thread Cert.MlpVidIdeal.nD Cert.MlpVidIdeal.τ).loc Cert.MlpVidIdeal.main_v6_6)) (v7 : (c : Dev Cert.MlpVidIdeal.nD) → Buf (Elt Ideal) ((c.tc : Thread Cert.MlpVidIdeal.nD Cert.MlpVidIdeal.τ).loc Cert.MlpVidIdeal.main_v6_7)),
      θ_run (Cert.MlpVidIdeal.defs (F := Ideal)) (onTc (τ := Cert.MlpVidIdeal.τ) (Cert.MlpVidIdeal.main (F := Ideal))) ⟨m, fun _ => 0, g⟩ (fun r => ∀ c : Dev Cert.MlpVidIdeal.nD,
          r.2.mem ((c.tc : Thread Cert.MlpVidIdeal.nD Cert.MlpVidIdeal.τ).loc Cert.MlpVidIdeal.main_v6_0) = v0 c
          ∧ r.2.mem ((c.tc : Thread Cert.MlpVidIdeal.nD Cert.MlpVidIdeal.τ).loc Cert.MlpVidIdeal.main_v6_1) = v1 c
          ∧ r.2.mem ((c.tc : Thread Cert.MlpVidIdeal.nD Cert.MlpVidIdeal.τ).loc Cert.MlpVidIdeal.main_v6_2) = v2 c
          ∧ r.2.mem ((c.tc : Thread Cert.MlpVidIdeal.nD Cert.MlpVidIdeal.τ).loc Cert.MlpVidIdeal.main_v6_3) = v3 c
          ∧ r.2.mem ((c.tc : Thread Cert.MlpVidIdeal.nD Cert.MlpVidIdeal.τ).loc Cert.MlpVidIdeal.main_v6_4) = v4 c
          ∧ r.2.mem ((c.tc : Thread Cert.MlpVidIdeal.nD Cert.MlpVidIdeal.τ).loc Cert.MlpVidIdeal.main_v6_5) = v5 c
          ∧ r.2.mem ((c.tc : Thread Cert.MlpVidIdeal.nD Cert.MlpVidIdeal.τ).loc Cert.MlpVidIdeal.main_v6_6) = v6 c
          ∧ r.2.mem ((c.tc : Thread Cert.MlpVidIdeal.nD Cert.MlpVidIdeal.τ).loc Cert.MlpVidIdeal.main_v6_7) = v7 c
          ∧ r.2.mem ((c.tc : Thread Cert.MlpVidIdeal.nD Cert.MlpVidIdeal.τ).loc Cert.MlpVidIdeal.main_arg0) = m ((c.tc : Thread Cert.MlpVidIdeal.nD Cert.MlpVidIdeal.τ).loc Cert.MlpVidIdeal.main_arg0)
          ∧ r.2.mem ((c.tc : Thread Cert.MlpVidIdeal.nD Cert.MlpVidIdeal.τ).loc Cert.MlpVidIdeal.main_arg1) = m ((c.tc : Thread Cert.MlpVidIdeal.nD Cert.MlpVidIdeal.τ).loc Cert.MlpVidIdeal.main_arg1)
          ∧ r.2.mem ((c.tc : Thread Cert.MlpVidIdeal.nD Cert.MlpVidIdeal.τ).loc Cert.MlpVidIdeal.main_arg2) = m ((c.tc : Thread Cert.MlpVidIdeal.nD Cert.MlpVidIdeal.τ).loc Cert.MlpVidIdeal.main_arg2)
          ∧ r.2.mem ((c.tc : Thread Cert.MlpVidIdeal.nD Cert.MlpVidIdeal.τ).loc Cert.MlpVidIdeal.main_arg3) = m ((c.tc : Thread Cert.MlpVidIdeal.nD Cert.MlpVidIdeal.τ).loc Cert.MlpVidIdeal.main_arg3)
          ∧ r.2.mem ((c.tc : Thread Cert.MlpVidIdeal.nD Cert.MlpVidIdeal.τ).loc Cert.MlpVidIdeal.main_arg4) = m ((c.tc : Thread Cert.MlpVidIdeal.nD Cert.MlpVidIdeal.τ).loc Cert.MlpVidIdeal.main_arg4)
          ∧ r.2.mem ((c.tc : Thread Cert.MlpVidIdeal.nD Cert.MlpVidIdeal.τ).loc Cert.MlpVidIdeal.main_arg5) = m ((c.tc : Thread Cert.MlpVidIdeal.nD Cert.MlpVidIdeal.τ).loc Cert.MlpVidIdeal.main_arg5)
          ∧ r.2.mem ((c.tc : Thread Cert.MlpVidIdeal.nD Cert.MlpVidIdeal.τ).loc Cert.MlpVidIdeal.main_arg6) = m ((c.tc : Thread Cert.MlpVidIdeal.nD Cert.MlpVidIdeal.τ).loc Cert.MlpVidIdeal.main_arg6)
          ∧ r.2.mem ((c.tc : Thread Cert.MlpVidIdeal.nD Cert.MlpVidIdeal.τ).loc Cert.MlpVidIdeal.main_arg7) = m ((c.tc : Thread Cert.MlpVidIdeal.nD Cert.MlpVidIdeal.τ).loc Cert.MlpVidIdeal.main_arg7)
          ∧ r.2.mem ((c.tc : Thread Cert.MlpVidIdeal.nD Cert.MlpVidIdeal.τ).loc Cert.MlpVidIdeal.main_arg8) = m ((c.tc : Thread Cert.MlpVidIdeal.nD Cert.MlpVidIdeal.τ).loc Cert.MlpVidIdeal.main_arg8)
          ∧ r.2.mem ((c.tc : Thread Cert.MlpVidIdeal.nD Cert.MlpVidIdeal.τ).loc Cert.MlpVidIdeal.main_arg9) = m ((c.tc : Thread Cert.MlpVidIdeal.nD Cert.MlpVidIdeal.τ).loc Cert.MlpVidIdeal.main_arg9)
          ∧ r.2.mem ((c.tc : Thread Cert.MlpVidIdeal.nD Cert.MlpVidIdeal.τ).loc Cert.MlpVidIdeal.main_arg10) = m ((c.tc : Thread Cert.MlpVidIdeal.nD Cert.MlpVidIdeal.τ).loc Cert.MlpVidIdeal.main_arg10))
      ∧ θ_run (Cert.MlpVidRefIdeal.defs (F := Ideal)) (onTc (τ := Cert.MlpVidRefIdeal.τ) (Cert.MlpVidRefIdeal.main (F := Ideal))) ⟨m', fun _ => 0, g'⟩ (fun r => ∀ c : Dev Cert.MlpVidRefIdeal.nD,
          r.2.mem ((c.tc : Thread Cert.MlpVidRefIdeal.nD Cert.MlpVidRefIdeal.τ).loc Cert.MlpVidRefIdeal.main_v2_0) = v0 c
          ∧ r.2.mem ((c.tc : Thread Cert.MlpVidRefIdeal.nD Cert.MlpVidRefIdeal.τ).loc Cert.MlpVidRefIdeal.main_v2_1) = v1 c
          ∧ r.2.mem ((c.tc : Thread Cert.MlpVidRefIdeal.nD Cert.MlpVidRefIdeal.τ).loc Cert.MlpVidRefIdeal.main_v2_2) = v2 c
          ∧ r.2.mem ((c.tc : Thread Cert.MlpVidRefIdeal.nD Cert.MlpVidRefIdeal.τ).loc Cert.MlpVidRefIdeal.main_v2_3) = v3 c
          ∧ r.2.mem ((c.tc : Thread Cert.MlpVidRefIdeal.nD Cert.MlpVidRefIdeal.τ).loc Cert.MlpVidRefIdeal.main_v2_4) = v4 c
          ∧ r.2.mem ((c.tc : Thread Cert.MlpVidRefIdeal.nD Cert.MlpVidRefIdeal.τ).loc Cert.MlpVidRefIdeal.main_v2_5) = v5 c
          ∧ r.2.mem ((c.tc : Thread Cert.MlpVidRefIdeal.nD Cert.MlpVidRefIdeal.τ).loc Cert.MlpVidRefIdeal.main_v2_6) = v6 c
          ∧ r.2.mem ((c.tc : Thread Cert.MlpVidRefIdeal.nD Cert.MlpVidRefIdeal.τ).loc Cert.MlpVidRefIdeal.main_v2_7) = v7 c
          ∧ r.2.mem ((c.tc : Thread Cert.MlpVidRefIdeal.nD Cert.MlpVidRefIdeal.τ).loc Cert.MlpVidRefIdeal.main_arg0) = m' ((c.tc : Thread Cert.MlpVidRefIdeal.nD Cert.MlpVidRefIdeal.τ).loc Cert.MlpVidRefIdeal.main_arg0)
          ∧ r.2.mem ((c.tc : Thread Cert.MlpVidRefIdeal.nD Cert.MlpVidRefIdeal.τ).loc Cert.MlpVidRefIdeal.main_arg1) = m' ((c.tc : Thread Cert.MlpVidRefIdeal.nD Cert.MlpVidRefIdeal.τ).loc Cert.MlpVidRefIdeal.main_arg1)
          ∧ r.2.mem ((c.tc : Thread Cert.MlpVidRefIdeal.nD Cert.MlpVidRefIdeal.τ).loc Cert.MlpVidRefIdeal.main_arg2) = m' ((c.tc : Thread Cert.MlpVidRefIdeal.nD Cert.MlpVidRefIdeal.τ).loc Cert.MlpVidRefIdeal.main_arg2)
          ∧ r.2.mem ((c.tc : Thread Cert.MlpVidRefIdeal.nD Cert.MlpVidRefIdeal.τ).loc Cert.MlpVidRefIdeal.main_arg3) = m' ((c.tc : Thread Cert.MlpVidRefIdeal.nD Cert.MlpVidRefIdeal.τ).loc Cert.MlpVidRefIdeal.main_arg3)
          ∧ r.2.mem ((c.tc : Thread Cert.MlpVidRefIdeal.nD Cert.MlpVidRefIdeal.τ).loc Cert.MlpVidRefIdeal.main_arg4) = m' ((c.tc : Thread Cert.MlpVidRefIdeal.nD Cert.MlpVidRefIdeal.τ).loc Cert.MlpVidRefIdeal.main_arg4)
          ∧ r.2.mem ((c.tc : Thread Cert.MlpVidRefIdeal.nD Cert.MlpVidRefIdeal.τ).loc Cert.MlpVidRefIdeal.main_arg5) = m' ((c.tc : Thread Cert.MlpVidRefIdeal.nD Cert.MlpVidRefIdeal.τ).loc Cert.MlpVidRefIdeal.main_arg5)
          ∧ r.2.mem ((c.tc : Thread Cert.MlpVidRefIdeal.nD Cert.MlpVidRefIdeal.τ).loc Cert.MlpVidRefIdeal.main_arg6) = m' ((c.tc : Thread Cert.MlpVidRefIdeal.nD Cert.MlpVidRefIdeal.τ).loc Cert.MlpVidRefIdeal.main_arg6)
          ∧ r.2.mem ((c.tc : Thread Cert.MlpVidRefIdeal.nD Cert.MlpVidRefIdeal.τ).loc Cert.MlpVidRefIdeal.main_arg7) = m' ((c.tc : Thread Cert.MlpVidRefIdeal.nD Cert.MlpVidRefIdeal.τ).loc Cert.MlpVidRefIdeal.main_arg7)
          ∧ r.2.mem ((c.tc : Thread Cert.MlpVidRefIdeal.nD Cert.MlpVidRefIdeal.τ).loc Cert.MlpVidRefIdeal.main_arg8) = m' ((c.tc : Thread Cert.MlpVidRefIdeal.nD Cert.MlpVidRefIdeal.τ).loc Cert.MlpVidRefIdeal.main_arg8)
          ∧ r.2.mem ((c.tc : Thread Cert.MlpVidRefIdeal.nD Cert.MlpVidRefIdeal.τ).loc Cert.MlpVidRefIdeal.main_arg9) = m' ((c.tc : Thread Cert.MlpVidRefIdeal.nD Cert.MlpVidRefIdeal.τ).loc Cert.MlpVidRefIdeal.main_arg9)
          ∧ r.2.mem ((c.tc : Thread Cert.MlpVidRefIdeal.nD Cert.MlpVidRefIdeal.τ).loc Cert.MlpVidRefIdeal.main_arg10) = m' ((c.tc : Thread Cert.MlpVidRefIdeal.nD Cert.MlpVidRefIdeal.τ).loc Cert.MlpVidRefIdeal.main_arg10))

def Claim : Prop :=
  ∃ (hMlpVid : Cert.MlpVid.Facts) (hMlpVidIdeal : Cert.MlpVidIdeal.Facts) (hMlpVidRefIdeal : Cert.MlpVidRefIdeal.Facts),
    quiescent_MlpVid (hMlpVid := hMlpVid)
    ∧ quiescent_MlpVidIdeal (hMlpVidIdeal := hMlpVidIdeal)
    ∧ quiescent_MlpVidRefIdeal (hMlpVidRefIdeal := hMlpVidRefIdeal)
    ∧ preserves_MlpVid_MlpVidIdeal
    ∧ algebraic_MlpVidIdeal_MlpVidRefIdeal (hMlpVidIdeal := hMlpVidIdeal) (hMlpVidRefIdeal := hMlpVidRefIdeal)
-- ==== MlpVid.lean ====
abbrev S2x12240x2560 : Shape := ⟨3, ![2, 12240, 2560]⟩
abbrev S2x5x12240x128 : Shape := ⟨4, ![2, 5, 12240, 128]⟩
abbrev S2x6x2560 : Shape := ⟨3, ![2, 6, 2560]⟩
abbrev S640x2560 : Shape := ⟨2, ![640, 2560]⟩
abbrev S2560 : Shape := ⟨1, ![2560]⟩
abbrev S2560x1728 : Shape := ⟨2, ![2560, 1728]⟩
abbrev S1728 : Shape := ⟨1, ![1728]⟩
abbrev S1728x2560 : Shape := ⟨2, ![1728, 2560]⟩
abbrev S1x2560 : Shape := ⟨2, ![1, 2560]⟩
abbrev S1728x1 : Shape := ⟨2, ![1728, 1]⟩
abbrev S2x12240x640 : Shape := ⟨3, ![2, 12240, 640]⟩
abbrev S2x1x12240 : Shape := ⟨3, ![2, 1, 12240]⟩
abbrev S2x1728x12240 : Shape := ⟨3, ![2, 1728, 12240]⟩
abbrev S1x256x2560 : Shape := ⟨3, ![1, 256, 2560]⟩
abbrev S1x5x256x128 : Shape := ⟨4, ![1, 5, 256, 128]⟩
abbrev S1x6x2560 : Shape := ⟨3, ![1, 6, 2560]⟩
abbrev S1x256x640 : Shape := ⟨3, ![1, 256, 640]⟩
abbrev S1x1x256 : Shape := ⟨3, ![1, 1, 256]⟩
abbrev S1x1728x256 : Shape := ⟨3, ![1, 1728, 256]⟩
abbrev S256x640 : Shape := ⟨2, ![256, 640]⟩
abbrev S256x2560 : Shape := ⟨2, ![256, 2560]⟩
abbrev S1728x256 : Shape := ⟨2, ![1728, 256]⟩
abbrev S1x1x256x128 : Shape := ⟨4, ![1, 1, 256, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S1x1x2560 : Shape := ⟨3, ![1, 1, 2560]⟩
abbrev S576x2560 : Shape := ⟨2, ![576, 2560]⟩
abbrev S576x256 : Shape := ⟨2, ![576, 256]⟩
abbrev S576x1 : Shape := ⟨2, ![576, 1]⟩
abbrev S256x1728 : Shape := ⟨2, ![256, 1728]⟩

abbrev nBuf : Space → Nat
  | .hbm => 25
  | .vmem => 33
  | .smem => 0
  | _ => 0

abbrev bufTy : (tb : Table) → Fin (tcTables nBuf tb) → BufTy
  | .hbm, ⟨0, _⟩ => ⟨S2x12240x2560, .bf16⟩
  | .hbm, ⟨1, _⟩ => ⟨S2x5x12240x128, .f32⟩
  | .hbm, ⟨2, _⟩ => ⟨S2x6x2560, .f32⟩
  | .hbm, ⟨3, _⟩ => ⟨S640x2560, .fp8e4m3⟩
  | .hbm, ⟨4, _⟩ => ⟨S2560, .f32⟩
  | .hbm, ⟨5, _⟩ => ⟨S2560x1728, .fp8e4m3⟩
  | .hbm, ⟨6, _⟩ => ⟨S1728, .f32⟩
  | .hbm, ⟨7, _⟩ => ⟨S2560x1728, .fp8e4m3⟩
  | .hbm, ⟨8, _⟩ => ⟨S1728, .f32⟩
  | .hbm, ⟨9, _⟩ => ⟨S1728x2560, .fp8e4m3⟩
  | .hbm, ⟨10, _⟩ => ⟨S2560, .f32⟩
  | .hbm, ⟨11, _⟩ => ⟨S1x2560, .f32⟩
  | .hbm, ⟨12, _⟩ => ⟨S1728x2560, .fp8e4m3⟩
  | .hbm, ⟨13, _⟩ => ⟨S1728x1, .f32⟩
  | .hbm, ⟨14, _⟩ => ⟨S1728x2560, .fp8e4m3⟩
  | .hbm, ⟨15, _⟩ => ⟨S1728x1, .f32⟩
  | .hbm, ⟨16, _⟩ => ⟨S1x2560, .f32⟩
  | .hbm, ⟨17, _⟩ => ⟨S2x12240x2560, .bf16⟩
  | .hbm, ⟨18, _⟩ => ⟨S2x12240x640, .bf16⟩
  | .hbm, ⟨19, _⟩ => ⟨S2x12240x640, .fp8e4m3⟩
  | .hbm, ⟨20, _⟩ => ⟨S2x1x12240, .f32⟩
  | .hbm, ⟨21, _⟩ => ⟨S2x12240x2560, .fp8e4m3⟩
  | .hbm, ⟨22, _⟩ => ⟨S2x1x12240, .f32⟩
  | .hbm, ⟨23, _⟩ => ⟨S2x1728x12240, .fp8e4m3⟩
  | .hbm, ⟨24, _⟩ => ⟨S2x1x12240, .f32⟩
  | .local _ .vmem, ⟨0, _⟩ => ⟨S1x256x2560, .bf16⟩
  | .local _ .vmem, ⟨1, _⟩ => ⟨S1x256x2560, .bf16⟩
  | .local _ .vmem, ⟨2, _⟩ => ⟨S1x5x256x128, .f32⟩
  | .local _ .vmem, ⟨3, _⟩ => ⟨S1x5x256x128, .f32⟩
  | .local _ .vmem, ⟨4, _⟩ => ⟨S1x6x2560, .f32⟩
  | .local _ .vmem, ⟨5, _⟩ => ⟨S1x6x2560, .f32⟩
  | .local _ .vmem, ⟨6, _⟩ => ⟨S640x2560, .fp8e4m3⟩
  | .local _ .vmem, ⟨7, _⟩ => ⟨S1x2560, .f32⟩
  | .local _ .vmem, ⟨8, _⟩ => ⟨S1728x2560, .fp8e4m3⟩
  | .local _ .vmem, ⟨9, _⟩ => ⟨S1728x1, .f32⟩
  | .local _ .vmem, ⟨10, _⟩ => ⟨S1728x2560, .fp8e4m3⟩
  | .local _ .vmem, ⟨11, _⟩ => ⟨S1728x1, .f32⟩
  | .local _ .vmem, ⟨12, _⟩ => ⟨S1728x2560, .fp8e4m3⟩
  | .local _ .vmem, ⟨13, _⟩ => ⟨S1x2560, .f32⟩
  | .local _ .vmem, ⟨14, _⟩ => ⟨S1x256x2560, .bf16⟩
  | .local _ .vmem, ⟨15, _⟩ => ⟨S1x256x2560, .bf16⟩
  | .local _ .vmem, ⟨16, _⟩ => ⟨S1x256x640, .bf16⟩
  | .local _ .vmem, ⟨17, _⟩ => ⟨S1x256x640, .bf16⟩
  | .local _ .vmem, ⟨18, _⟩ => ⟨S1x256x640, .fp8e4m3⟩
  | .local _ .vmem, ⟨19, _⟩ => ⟨S1x256x640, .fp8e4m3⟩
  | .local _ .vmem, ⟨20, _⟩ => ⟨S1x1x256, .f32⟩
  | .local _ .vmem, ⟨21, _⟩ => ⟨S1x1x256, .f32⟩
  | .local _ .vmem, ⟨22, _⟩ => ⟨S1x256x2560, .fp8e4m3⟩
  | .local _ .vmem, ⟨23, _⟩ => ⟨S1x256x2560, .fp8e4m3⟩
  | .local _ .vmem, ⟨24, _⟩ => ⟨S1x1x256, .f32⟩
  | .local _ .vmem, ⟨25, _⟩ => ⟨S1x1x256, .f32⟩
  | .local _ .vmem, ⟨26, _⟩ => ⟨S1x1728x256, .fp8e4m3⟩
  | .local _ .vmem, ⟨27, _⟩ => ⟨S1x1728x256, .fp8e4m3⟩
  | .local _ .vmem, ⟨28, _⟩ => ⟨S1x1x256, .f32⟩
  | .local _ .vmem, ⟨29, _⟩ => ⟨S1x1x256, .f32⟩
  | .local _ .vmem, ⟨30, _⟩ => ⟨S256x640, .f32⟩
  | .local _ .vmem, ⟨31, _⟩ => ⟨S256x2560, .f32⟩
  | .local _ .vmem, ⟨32, _⟩ => ⟨S1728x256, .f32⟩
  | _, _ => ⟨S2x12240x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev main_v6_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![2, 48], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S640x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1728x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1728x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1728x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1728x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1728x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x640 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x2560 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1728x256 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MlpVidRefIdeal.lean ====
abbrev S2x12240x2560 : Shape := ⟨3, ![2, 12240, 2560]⟩
abbrev S2x5x12240x128 : Shape := ⟨4, ![2, 5, 12240, 128]⟩
abbrev S2x6x2560 : Shape := ⟨3, ![2, 6, 2560]⟩
abbrev S640x2560 : Shape := ⟨2, ![640, 2560]⟩
abbrev S2560 : Shape := ⟨1, ![2560]⟩
abbrev S2560x1728 : Shape := ⟨2, ![2560, 1728]⟩
abbrev S1728 : Shape := ⟨1, ![1728]⟩
abbrev S1728x2560 : Shape := ⟨2, ![1728, 2560]⟩
abbrev S2x12240x5x128 : Shape := ⟨4, ![2, 12240, 5, 128]⟩
abbrev S2x12240x640 : Shape := ⟨3, ![2, 12240, 640]⟩
abbrev S2x1x12240 : Shape := ⟨3, ![2, 1, 12240]⟩
abbrev S2x1728x12240 : Shape := ⟨3, ![2, 1728, 12240]⟩
abbrev S2x12240 : Shape := ⟨2, ![2, 12240]⟩
abbrev S2x12240x1 : Shape := ⟨3, ![2, 12240, 1]⟩
abbrev S2x1x2560 : Shape := ⟨3, ![2, 1, 2560]⟩
abbrev S2x2560 : Shape := ⟨2, ![2, 2560]⟩
abbrev S1x1x2560 : Shape := ⟨3, ![1, 1, 2560]⟩
abbrev S2x12240x1728 : Shape := ⟨3, ![2, 12240, 1728]⟩
abbrev S1x1x1728 : Shape := ⟨3, ![1, 1, 1728]⟩

abbrev nBuf : Space → Nat
  | .hbm => 21
  | .vmem => 19
  | .smem => 0
  | _ => 0

abbrev bufTy : (tb : Table) → Fin (tcTables nBuf tb) → BufTy
  | .hbm, ⟨0, _⟩ => ⟨S2x12240x2560, .bf16⟩
  | .hbm, ⟨1, _⟩ => ⟨S2x5x12240x128, .f32⟩
  | .hbm, ⟨2, _⟩ => ⟨S2x6x2560, .f32⟩
  | .hbm, ⟨3, _⟩ => ⟨S640x2560, .fp8e4m3⟩
  | .hbm, ⟨4, _⟩ => ⟨S2560, .f32⟩
  | .hbm, ⟨5, _⟩ => ⟨S2560x1728, .fp8e4m3⟩
  | .hbm, ⟨6, _⟩ => ⟨S1728, .f32⟩
  | .hbm, ⟨7, _⟩ => ⟨S2560x1728, .fp8e4m3⟩
  | .hbm, ⟨8, _⟩ => ⟨S1728, .f32⟩
  | .hbm, ⟨9, _⟩ => ⟨S1728x2560, .fp8e4m3⟩
  | .hbm, ⟨10, _⟩ => ⟨S2560, .f32⟩
  | .hbm, ⟨11, _⟩ => ⟨S2x12240x5x128, .f32⟩
  | .hbm, ⟨12, _⟩ => ⟨S2x12240x640, .f32⟩
  | .hbm, ⟨13, _⟩ => ⟨S2x12240x2560, .bf16⟩
  | .hbm, ⟨14, _⟩ => ⟨S2x12240x640, .bf16⟩
  | .hbm, ⟨15, _⟩ => ⟨S2x12240x640, .fp8e4m3⟩
  | .hbm, ⟨16, _⟩ => ⟨S2x1x12240, .f32⟩
  | .hbm, ⟨17, _⟩ => ⟨S2x12240x2560, .fp8e4m3⟩
  | .hbm, ⟨18, _⟩ => ⟨S2x1x12240, .f32⟩
  | .hbm, ⟨19, _⟩ => ⟨S2x1728x12240, .fp8e4m3⟩
  | .hbm, ⟨20, _⟩ => ⟨S2x1x12240, .f32⟩
  | .local _ .vmem, ⟨0, _⟩ => ⟨S2x12240x2560, .bf16⟩
  | .local _ .vmem, ⟨1, _⟩ => ⟨S2x12240x640, .f32⟩
  | .local _ .vmem, ⟨2, _⟩ => ⟨S2x6x2560, .f32⟩
  | .local _ .vmem, ⟨3, _⟩ => ⟨S640x2560, .fp8e4m3⟩
  | .local _ .vmem, ⟨4, _⟩ => ⟨S2560, .f32⟩
  | .local _ .vmem, ⟨5, _⟩ => ⟨S2560x1728, .fp8e4m3⟩
  | .local _ .vmem, ⟨6, _⟩ => ⟨S1728, .f32⟩
  | .local _ .vmem, ⟨7, _⟩ => ⟨S2560x1728, .fp8e4m3⟩
  | .local _ .vmem, ⟨8, _⟩ => ⟨S1728, .f32⟩
  | .local _ .vmem, ⟨9, _⟩ => ⟨S1728x2560, .fp8e4m3⟩
  | .local _ .vmem, ⟨10, _⟩ => ⟨S2560, .f32⟩
  | .local _ .vmem, ⟨11, _⟩ => ⟨S2x12240x2560, .bf16⟩
  | .local _ .vmem, ⟨12, _⟩ => ⟨S2x12240x640, .bf16⟩
  | .local _ .vmem, ⟨13, _⟩ => ⟨S2x12240x640, .fp8e4m3⟩
  | .local _ .vmem, ⟨14, _⟩ => ⟨S2x1x12240, .f32⟩
  | .local _ .vmem, ⟨15, _⟩ => ⟨S2x12240x2560, .fp8e4m3⟩
  | .local _ .vmem, ⟨16, _⟩ => ⟨S2x1x12240, .f32⟩
  | .local _ .vmem, ⟨17, _⟩ => ⟨S2x1728x12240, .fp8e4m3⟩
  | .local _ .vmem, ⟨18, _⟩ => ⟨S2x1x12240, .f32⟩
  | _, _ => ⟨S2x12240x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_v2_5 : Ref sig .tc := ⟨.hbm, 18, rfl⟩
abbrev main_v2_6 : Ref sig .tc := ⟨.hbm, 19, rfl⟩
abbrev main_v2_7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S2x12240x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x12240x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S640x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560x1728 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1728 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2560x1728 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1728 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1728x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x12240x2560 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x12240x640 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x12240x640 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1x12240 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x12240x2560 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1x12240 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1728x12240 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1x12240 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.MlpVidRun.lean ====
module

public import proofs.«01_k».proof.Proof.Gen.MlpVid.Launch
public import proofs.«01_k».proof.Proof.Gen.MlpVid.Skeleton
public import proofs.«01_k».proof.Proof.Gen.MlpVid.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.MlpVid.Body
open Cert.MlpVid Cert.MlpVid.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x256x2560 .bf16) (harg2 : arg2.IsWhole) (arg3 : Memref sig .tc .vmem S1x5x256x128 .f32) (harg3 : arg3.IsWhole) (arg4 : Memref sig .tc .vmem S1x6x2560 .f32) (harg4 : arg4.IsWhole) (arg5 : Memref sig .tc .vmem S640x2560 .fp8e4m3) (harg5 : arg5.IsWhole) (arg6 : Memref sig .tc .vmem S1x2560 .f32) (harg6 : arg6.IsWhole) (arg7 : Memref sig .tc .vmem S1728x2560 .fp8e4m3) (harg7 : arg7.IsWhole) (arg8 : Memref sig .tc .vmem S1728x1 .f32) (harg8 : arg8.IsWhole) (arg9 : Memref sig .tc .vmem S1728x2560 .fp8e4m3) (harg9 : arg9.IsWhole) (arg10 : Memref sig .tc .vmem S1728x1 .f32) (harg10 : arg10.IsWhole) (arg11 : Memref sig .tc .vmem S1728x2560 .fp8e4m3) (harg11 : arg11.IsWhole) (arg12 : Memref sig .tc .vmem S1x2560 .f32) (harg12 : arg12.IsWhole) (arg13 : Memref sig .tc .vmem S1x256x2560 .bf16) (harg13 : arg13.IsWhole) (arg14 : Memref sig .tc .vmem S1x256x640 .bf16) (harg14 : arg14.IsWhole) (arg15 : Memref sig .tc .vmem S1x256x640 .fp8e4m3) (harg15 : arg15.IsWhole) (arg16 : Memref sig .tc .vmem S1x1x256 .f32) (harg16 : arg16.IsWhole) (arg17 : Memref sig .tc .vmem S1x256x2560 .fp8e4m3) (harg17 : arg17.IsWhole) (arg18 : Memref sig .tc .vmem S1x1x256 .f32) (harg18 : arg18.IsWhole) (arg19 : Memref sig .tc .vmem S1x1728x256 .fp8e4m3) (harg19 : arg19.IsWhole) (arg20 : Memref sig .tc .vmem S1x1x256 .f32) (harg20 : arg20.IsWhole) (arg21 : Memref sig .tc .vmem S256x640 .f32) (harg21 : arg21.IsWhole) (arg22 : Memref sig .tc .vmem S256x2560 .f32) (harg22 : arg22.IsWhole) (arg23 : Memref sig .tc .vmem S1728x256 .f32) (harg23 : arg23.IsWhole)
    (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) :
    Σ' (L11 : List (View.Piece (Elt F) S1x256x2560 .bf16)), Σ' (L12 : List (View.Piece (Elt F) S1x256x640 .bf16)), Σ' (L13 : List (View.Piece (Elt F) S1x256x640 .fp8e4m3)), Σ' (L14 : List (View.Piece (Elt F) S1x1x256 .f32)), Σ' (L15 : List (View.Piece (Elt F) S1x256x2560 .fp8e4m3)), Σ' (L16 : List (View.Piece (Elt F) S1x1x256 .f32)), Σ' (L17 : List (View.Piece (Elt F) S1x1728x256 .fp8e4m3)), Σ' (L18 : List (View.Piece (Elt F) S1x1x256 .f32)), Σ' (LT0 : List (View.Piece (Elt F) S256x640 .f32)), Σ' (LT1 : List (View.Piece (Elt F) S256x2560 .f32)), { LT2 : List (View.Piece (Elt F) S1728x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LT0) ∗ (∃ f, arg22.view.loc (c : Thread nD τ) ↦[arg22.view.set]{fullShare} arg22.view.writes (Elt F) f LT1) ∗ (∃ f, arg23.view.loc (c : Thread nD τ) ↦[arg23.view.set]{fullShare} arg23.view.writes (Elt F) f LT2)) -∗ K ⟨⟩))
          ⊢ wp frame (wpE (defs₀ (F := F)) Variants.none c none) E (cc0_mlp_vid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, ?_, fun E K => ?run⟩
  case run =>
    simp only [cc0_mlp_vid_eq_skeleton]; unfold cc0_mlp_vid_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    isplitl [HS1]; · iexists _; iexact HS1
    iexists _; iexact HS2

end Cert.MlpVid.Body

end
-- ==== Proof.MlpVidFrame.lean ====
module

public import proofs.«01_k».proof.Proof.MlpVidRun
public import proofs.«01_k».proof.Proof.Gen.MlpVid.Frame
public import Idealize.ShloMosaic.Lib.Claim
public import Idealize.ShloMosaic.Lib.Pipeline.ArrRel

/-! # The run of the video feed-forward program, `MlpVid`

The row axis has 12240 rows and the kernel takes 256 at a time, so its last block on each batch entry overhangs the
arrays by 48 rows. What a staging buffer holds there is not known; the proof data is therefore RELATIONAL: an output's
buffer is what the body makes of its inputs' buffers, the two row-blocked inputs holding their blocks on the rows inside
the array and anything (`d0`, `d1`) on the others. Nothing a row inside the array ends with depends on the others. -/

@[expose] public section

set_option maxRecDepth 16384

noncomputable section

namespace Cert.MlpVid.Body
open Cert.MlpVid Cert.MlpVid.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memref window 0 is staged in at point `t`, and that it is a whole buffer. -/
abbrev ms_0 (t : Fin cfg0.N) : Memref sig .tc .vmem S1x256x2560 .bf16 := win0_0.stage (cfg0.slots t 0)
abbrev hs_0 (t : Fin cfg0.N) : (ms_0 t).IsWhole := hstage0_0 ((cfg0.slots t 0).cast nbuf0_0)
/-- The memref window 1 is staged in at point `t`, and that it is a whole buffer. -/
abbrev ms_1 (t : Fin cfg0.N) : Memref sig .tc .vmem S1x5x256x128 .f32 := win0_1.stage (cfg0.slots t 1)
abbrev hs_1 (t : Fin cfg0.N) : (ms_1 t).IsWhole := hstage0_1 ((cfg0.slots t 1).cast nbuf0_1)
/-- The memref window 2 is staged in at point `t`, and that it is a whole buffer. -/
abbrev ms_2 (t : Fin cfg0.N) : Memref sig .tc .vmem S1x6x2560 .f32 := win0_2.stage (cfg0.slots t 2)
abbrev hs_2 (t : Fin cfg0.N) : (ms_2 t).IsWhole := hstage0_2 ((cfg0.slots t 2).cast nbuf0_2)
/-- The memref window 3 is staged in at point `t`, and that it is a whole buffer. -/
abbrev ms_3 (t : Fin cfg0.N) : Memref sig .tc .vmem S640x2560 .fp8e4m3 := win0_3.stage (cfg0.slots t 3)
abbrev hs_3 (t : Fin cfg0.N) : (ms_3 t).IsWhole := hstage0_3 ((cfg0.slots t 3).cast nbuf0_3)
/-- The memref window 4 is staged in at point `t`, and that it is a whole buffer. -/
abbrev ms_4 (t : Fin cfg0.N) : Memref sig .tc .vmem S1x2560 .f32 := win0_4.stage (cfg0.slots t 4)
abbrev hs_4 (t : Fin cfg0.N) : (ms_4 t).IsWhole := hstage0_4 ((cfg0.slots t 4).cast nbuf0_4)
/-- The memref window 5 is staged in at point `t`, and that it is a whole buffer. -/
abbrev ms_5 (t : Fin cfg0.N) : Memref sig .tc .vmem S1728x2560 .fp8e4m3 := win0_5.stage (cfg0.slots t 5)
abbrev hs_5 (t : Fin cfg0.N) : (ms_5 t).IsWhole := hstage0_5 ((cfg0.slots t 5).cast nbuf0_5)
/-- The memref window 6 is staged in at point `t`, and that it is a whole buffer. -/
abbrev ms_6 (t : Fin cfg0.N) : Memref sig .tc .vmem S1728x1 .f32 := win0_6.stage (cfg0.slots t 6)
abbrev hs_6 (t : Fin cfg0.N) : (ms_6 t).IsWhole := hstage0_6 ((cfg0.slots t 6).cast nbuf0_6)
/-- The memref window 7 is staged in at point `t`, and that it is a whole buffer. -/
abbrev ms_7 (t : Fin cfg0.N) : Memref sig .tc .vmem S1728x2560 .fp8e4m3 := win0_7.stage (cfg0.slots t 7)
abbrev hs_7 (t : Fin cfg0.N) : (ms_7 t).IsWhole := hstage0_7 ((cfg0.slots t 7).cast nbuf0_7)
/-- The memref window 8 is staged in at point `t`, and that it is a whole buffer. -/
abbrev ms_8 (t : Fin cfg0.N) : Memref sig .tc .vmem S1728x1 .f32 := win0_8.stage (cfg0.slots t 8)
abbrev hs_8 (t : Fin cfg0.N) : (ms_8 t).IsWhole := hstage0_8 ((cfg0.slots t 8).cast nbuf0_8)
/-- The memref window 9 is staged in at point `t`, and that it is a whole buffer. -/
abbrev ms_9 (t : Fin cfg0.N) : Memref sig .tc .vmem S1728x2560 .fp8e4m3 := win0_9.stage (cfg0.slots t 9)
abbrev hs_9 (t : Fin cfg0.N) : (ms_9 t).IsWhole := hstage0_9 ((cfg0.slots t 9).cast nbuf0_9)
/-- The memref window 10 is staged in at point `t`, and that it is a whole buffer. -/
abbrev ms_10 (t : Fin cfg0.N) : Memref sig .tc .vmem S1x2560 .f32 := win0_10.stage (cfg0.slots t 10)
abbrev hs_10 (t : Fin cfg0.N) : (ms_10 t).IsWhole := hstage0_10 ((cfg0.slots t 10).cast nbuf0_10)
/-- The memref window 11 is staged in at point `t`, and that it is a whole buffer. -/
abbrev ms_11 (t : Fin cfg0.N) : Memref sig .tc .vmem S1x256x2560 .bf16 := win0_11.stage (cfg0.slots t 11)
abbrev hs_11 (t : Fin cfg0.N) : (ms_11 t).IsWhole := hstage0_11 ((cfg0.slots t 11).cast nbuf0_11)
/-- The memref window 12 is staged in at point `t`, and that it is a whole buffer. -/
abbrev ms_12 (t : Fin cfg0.N) : Memref sig .tc .vmem S1x256x640 .bf16 := win0_12.stage (cfg0.slots t 12)
abbrev hs_12 (t : Fin cfg0.N) : (ms_12 t).IsWhole := hstage0_12 ((cfg0.slots t 12).cast nbuf0_12)
/-- The memref window 13 is staged in at point `t`, and that it is a whole buffer. -/
abbrev ms_13 (t : Fin cfg0.N) : Memref sig .tc .vmem S1x256x640 .fp8e4m3 := win0_13.stage (cfg0.slots t 13)
abbrev hs_13 (t : Fin cfg0.N) : (ms_13 t).IsWhole := hstage0_13 ((cfg0.slots t 13).cast nbuf0_13)
/-- The memref window 14 is staged in at point `t`, and that it is a whole buffer. -/
abbrev ms_14 (t : Fin cfg0.N) : Memref sig .tc .vmem S1x1x256 .f32 := win0_14.stage (cfg0.slots t 14)
abbrev hs_14 (t : Fin cfg0.N) : (ms_14 t).IsWhole := hstage0_14 ((cfg0.slots t 14).cast nbuf0_14)
/-- The memref window 15 is staged in at point `t`, and that it is a whole buffer. -/
abbrev ms_15 (t : Fin cfg0.N) : Memref sig .tc .vmem S1x256x2560 .fp8e4m3 := win0_15.stage (cfg0.slots t 15)
abbrev hs_15 (t : Fin cfg0.N) : (ms_15 t).IsWhole := hstage0_15 ((cfg0.slots t 15).cast nbuf0_15)
/-- The memref window 16 is staged in at point `t`, and that it is a whole buffer. -/
abbrev ms_16 (t : Fin cfg0.N) : Memref sig .tc .vmem S1x1x256 .f32 := win0_16.stage (cfg0.slots t 16)
abbrev hs_16 (t : Fin cfg0.N) : (ms_16 t).IsWhole := hstage0_16 ((cfg0.slots t 16).cast nbuf0_16)
/-- The memref window 17 is staged in at point `t`, and that it is a whole buffer. -/
abbrev ms_17 (t : Fin cfg0.N) : Memref sig .tc .vmem S1x1728x256 .fp8e4m3 := win0_17.stage (cfg0.slots t 17)
abbrev hs_17 (t : Fin cfg0.N) : (ms_17 t).IsWhole := hstage0_17 ((cfg0.slots t 17).cast nbuf0_17)
/-- The memref window 18 is staged in at point `t`, and that it is a whole buffer. -/
abbrev ms_18 (t : Fin cfg0.N) : Memref sig .tc .vmem S1x1x256 .f32 := win0_18.stage (cfg0.slots t 18)
abbrev hs_18 (t : Fin cfg0.N) : (ms_18 t).IsWhole := hstage0_18 ((cfg0.slots t 18).cast nbuf0_18)
/-- The kernel's scratch buffers. -/
abbrev sc_0 : Memref sig .tc .vmem S256x640 .f32 := Memref.whole cc0_scratch0
abbrev sc_1 : Memref sig .tc .vmem S256x2560 .f32 := Memref.whole cc0_scratch1
abbrev sc_2 : Memref sig .tc .vmem S1728x256 .f32 := Memref.whole cc0_scratch2

/-- The frame's invariant with the scratch buffers as memrefs owned at some contents. -/
theorem inv_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d)) ∗ (∃ r, prngReg c r)) := by
  unfold Pipeline.ΦA; rw [scopedRest0_eq]; simp only [sc_0, sc_1, sc_2, owns_whole]; try rfl

/-- The body's run at grid point `t`. -/
def runAt (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) :=
  kernelRun0_A (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) sc_0 (Memref.isWhole_whole _) sc_1 (Memref.isWhole_whole _) sc_2 (Memref.isWhole_whole _) x0 x1 x2 x3 x4 x5 x6 x7 x8 x9 x10

/-! The body's stores fill each output's buffer. -/

theorem covers_12 (c : Dev nD) (i : grid0.Coords) (arg2 : Memref sig .tc .vmem S1x256x2560 .bf16) (harg2 : arg2.IsWhole) (arg3 : Memref sig .tc .vmem S1x5x256x128 .f32) (harg3 : arg3.IsWhole) (arg4 : Memref sig .tc .vmem S1x6x2560 .f32) (harg4 : arg4.IsWhole) (arg5 : Memref sig .tc .vmem S640x2560 .fp8e4m3) (harg5 : arg5.IsWhole) (arg6 : Memref sig .tc .vmem S1x2560 .f32) (harg6 : arg6.IsWhole) (arg7 : Memref sig .tc .vmem S1728x2560 .fp8e4m3) (harg7 : arg7.IsWhole) (arg8 : Memref sig .tc .vmem S1728x1 .f32) (harg8 : arg8.IsWhole) (arg9 : Memref sig .tc .vmem S1728x2560 .fp8e4m3) (harg9 : arg9.IsWhole) (arg10 : Memref sig .tc .vmem S1728x1 .f32) (harg10 : arg10.IsWhole) (arg11 : Memref sig .tc .vmem S1728x2560 .fp8e4m3) (harg11 : arg11.IsWhole) (arg12 : Memref sig .tc .vmem S1x2560 .f32) (harg12 : arg12.IsWhole) (arg13 : Memref sig .tc .vmem S1x256x2560 .bf16) (harg13 : arg13.IsWhole) (arg14 : Memref sig .tc .vmem S1x256x640 .bf16) (harg14 : arg14.IsWhole) (arg15 : Memref sig .tc .vmem S1x256x640 .fp8e4m3) (harg15 : arg15.IsWhole) (arg16 : Memref sig .tc .vmem S1x1x256 .f32) (harg16 : arg16.IsWhole) (arg17 : Memref sig .tc .vmem S1x256x2560 .fp8e4m3) (harg17 : arg17.IsWhole) (arg18 : Memref sig .tc .vmem S1x1x256 .f32) (harg18 : arg18.IsWhole) (arg19 : Memref sig .tc .vmem S1x1728x256 .fp8e4m3) (harg19 : arg19.IsWhole) (arg20 : Memref sig .tc .vmem S1x1x256 .f32) (harg20 : arg20.IsWhole) (arg21 : Memref sig .tc .vmem S256x640 .f32) (harg21 : arg21.IsWhole) (arg22 : Memref sig .tc .vmem S256x2560 .f32) (harg22 : arg22.IsWhole) (arg23 : Memref sig .tc .vmem S1728x256 .f32) (harg23 : arg23.IsWhole)
    (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x256x640.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 S1x256x128.size (by sl_kernel_rfl) y
theorem cover_11 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x256x2560.Idx) :
    ∃ pc ∈ (runAt c t x0 x1 x2 x3 x4 x5 x6 x7 x8 x9 x10).1, y ∈ pc.1.set :=
  View.cover_of_tiledL (runAt c t x0 x1 x2 x3 x4 x5 x6 x7 x8 x9 x10).1 S1x256x2560.size (by sl_kernel_rfl) y
theorem cover_12 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x256x640.Idx) :
    ∃ pc ∈ (runAt c t x0 x1 x2 x3 x4 x5 x6 x7 x8 x9 x10).2.1, y ∈ pc.1.set :=
  covers_12 c _ _ _ _ _ _ _ _ _ _ _ _ _ _ _ _ _ _ _ _ _ _ _ _ _ _ _ _ _ _ _ _ _ _ _ _ _ _ _ _ _ _ _ _ _ _ _ _ _ _ _ _ _ _ _ _ y
theorem cover_13 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x256x640.Idx) :
    ∃ pc ∈ (runAt c t x0 x1 x2 x3 x4 x5 x6 x7 x8 x9 x10).2.2.1, y ∈ pc.1.set :=
  View.cover_of_tiledL (runAt c t x0 x1 x2 x3 x4 x5 x6 x7 x8 x9 x10).2.2.1 S1x256x640.size (by sl_kernel_rfl) y
theorem cover_14 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x1x256.Idx) :
    ∃ pc ∈ (runAt c t x0 x1 x2 x3 x4 x5 x6 x7 x8 x9 x10).2.2.2.1, y ∈ pc.1.set :=
  View.cover_of_tiledL (runAt c t x0 x1 x2 x3 x4 x5 x6 x7 x8 x9 x10).2.2.2.1 S1x1x256.size (by sl_kernel_rfl) y
theorem cover_15 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x256x2560.Idx) :
    ∃ pc ∈ (runAt c t x0 x1 x2 x3 x4 x5 x6 x7 x8 x9 x10).2.2.2.2.1, y ∈ pc.1.set :=
  View.cover_of_tiledL (runAt c t x0 x1 x2 x3 x4 x5 x6 x7 x8 x9 x10).2.2.2.2.1 S1x256x2560.size (by sl_kernel_rfl) y
theorem cover_16 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x1x256.Idx) :
    ∃ pc ∈ (runAt c t x0 x1 x2 x3 x4 x5 x6 x7 x8 x9 x10).2.2.2.2.2.1, y ∈ pc.1.set :=
  View.cover_of_tiledL (runAt c t x0 x1 x2 x3 x4 x5 x6 x7 x8 x9 x10).2.2.2.2.2.1 S1x1x256.size (by sl_kernel_rfl) y
theorem cover_17 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x1728x256.Idx) :
    ∃ pc ∈ (runAt c t x0 x1 x2 x3 x4 x5 x6 x7 x8 x9 x10).2.2.2.2.2.2.1, y ∈ pc.1.set :=
  View.cover_of_tiledL (runAt c t x0 x1 x2 x3 x4 x5 x6 x7 x8 x9 x10).2.2.2.2.2.2.1 S1x1728x256.size (by sl_kernel_rfl) y
theorem cover_18 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x1x256.Idx) :
    ∃ pc ∈ (runAt c t x0 x1 x2 x3 x4 x5 x6 x7 x8 x9 x10).2.2.2.2.2.2.2.1, y ∈ pc.1.set :=
  View.cover_of_tiledL (runAt c t x0 x1 x2 x3 x4 x5 x6 x7 x8 x9 x10).2.2.2.2.2.2.2.1 S1x1x256.size (by sl_kernel_rfl) y

/-- What the body leaves in output window 11's buffer at point `t`, its inputs' buffers holding `x0 … x10`. -/
def left_11 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x256x2560 .bf16 :=
  View.canon (runAt c t x0 x1 x2 x3 x4 x5 x6 x7 x8 x9 x10).1
/-- What the body leaves in output window 12's buffer at point `t`, its inputs' buffers holding `x0 … x10`. -/
def left_12 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x256x640 .bf16 :=
  View.canon (runAt c t x0 x1 x2 x3 x4 x5 x6 x7 x8 x9 x10).2.1
/-- What the body leaves in output window 13's buffer at point `t`, its inputs' buffers holding `x0 … x10`. -/
def left_13 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x256x640 .fp8e4m3 :=
  View.canon (runAt c t x0 x1 x2 x3 x4 x5 x6 x7 x8 x9 x10).2.2.1
/-- What the body leaves in output window 14's buffer at point `t`, its inputs' buffers holding `x0 … x10`. -/
def left_14 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x1x256 .f32 :=
  View.canon (runAt c t x0 x1 x2 x3 x4 x5 x6 x7 x8 x9 x10).2.2.2.1
/-- What the body leaves in output window 15's buffer at point `t`, its inputs' buffers holding `x0 … x10`. -/
def left_15 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x256x2560 .fp8e4m3 :=
  View.canon (runAt c t x0 x1 x2 x3 x4 x5 x6 x7 x8 x9 x10).2.2.2.2.1
/-- What the body leaves in output window 16's buffer at point `t`, its inputs' buffers holding `x0 … x10`. -/
def left_16 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x1x256 .f32 :=
  View.canon (runAt c t x0 x1 x2 x3 x4 x5 x6 x7 x8 x9 x10).2.2.2.2.2.1
/-- What the body leaves in output window 17's buffer at point `t`, its inputs' buffers holding `x0 … x10`. -/
def left_17 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x1728x256 .fp8e4m3 :=
  View.canon (runAt c t x0 x1 x2 x3 x4 x5 x6 x7 x8 x9 x10).2.2.2.2.2.2.1
/-- What the body leaves in output window 18's buffer at point `t`, its inputs' buffers holding `x0 … x10`. -/
def left_18 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x1x256 .f32 :=
  View.canon (runAt c t x0 x1 x2 x3 x4 x5 x6 x7 x8 x9 x10).2.2.2.2.2.2.2.1

set_option maxHeartbeats 2000000 in
/-- The body at grid point `t`, whatever its inputs' buffers hold. -/
theorem body_run (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (x11 : Vec F S1x256x2560 .bf16) (x12 : Vec F S1x256x640 .bf16) (x13 : Vec F S1x256x640 .fp8e4m3) (x14 : Vec F S1x1x256 .f32) (x15 : Vec F S1x256x2560 .fp8e4m3) (x16 : Vec F S1x1x256 .f32) (x17 : Vec F S1x1728x256 .fp8e4m3) (x18 : Vec F S1x1x256 .f32) (O : sProp 𝕄) :
    iprop(Pipeline.ΦA spec0 c ∗ O
    ∗ owns (c : Thread nD τ) (ms_0 t) fullShare x0
    ∗ owns (c : Thread nD τ) (ms_1 t) fullShare x1
    ∗ owns (c : Thread nD τ) (ms_2 t) fullShare x2
    ∗ owns (c : Thread nD τ) (ms_3 t) fullShare x3
    ∗ owns (c : Thread nD τ) (ms_4 t) fullShare x4
    ∗ owns (c : Thread nD τ) (ms_5 t) fullShare x5
    ∗ owns (c : Thread nD τ) (ms_6 t) fullShare x6
    ∗ owns (c : Thread nD τ) (ms_7 t) fullShare x7
    ∗ owns (c : Thread nD τ) (ms_8 t) fullShare x8
    ∗ owns (c : Thread nD τ) (ms_9 t) fullShare x9
    ∗ owns (c : Thread nD τ) (ms_10 t) fullShare x10
    ∗ owns (c : Thread nD τ) (ms_11 t) fullShare x11
    ∗ owns (c : Thread nD τ) (ms_12 t) fullShare x12
    ∗ owns (c : Thread nD τ) (ms_13 t) fullShare x13
    ∗ owns (c : Thread nD τ) (ms_14 t) fullShare x14
    ∗ owns (c : Thread nD τ) (ms_15 t) fullShare x15
    ∗ owns (c : Thread nD τ) (ms_16 t) fullShare x16
    ∗ owns (c : Thread nD τ) (ms_17 t) fullShare x17
    ∗ owns (c : Thread nD τ) (ms_18 t) fullShare x18)
    ⊢ wp frame (wpE (defs₀ (F := F)) Variants.none c none) Set.univ (bodyAt0 t) (fun _ => iprop(Pipeline.ΦA spec0 c ∗ O
    ∗ owns (c : Thread nD τ) (ms_0 t) fullShare x0
    ∗ owns (c : Thread nD τ) (ms_1 t) fullShare x1
    ∗ owns (c : Thread nD τ) (ms_2 t) fullShare x2
    ∗ owns (c : Thread nD τ) (ms_3 t) fullShare x3
    ∗ owns (c : Thread nD τ) (ms_4 t) fullShare x4
    ∗ owns (c : Thread nD τ) (ms_5 t) fullShare x5
    ∗ owns (c : Thread nD τ) (ms_6 t) fullShare x6
    ∗ owns (c : Thread nD τ) (ms_7 t) fullShare x7
    ∗ owns (c : Thread nD τ) (ms_8 t) fullShare x8
    ∗ owns (c : Thread nD τ) (ms_9 t) fullShare x9
    ∗ owns (c : Thread nD τ) (ms_10 t) fullShare x10
    ∗ owns (c : Thread nD τ) (ms_11 t) fullShare (left_11 c t x0 x1 x2 x3 x4 x5 x6 x7 x8 x9 x10)
    ∗ owns (c : Thread nD τ) (ms_12 t) fullShare (left_12 c t x0 x1 x2 x3 x4 x5 x6 x7 x8 x9 x10)
    ∗ owns (c : Thread nD τ) (ms_13 t) fullShare (left_13 c t x0 x1 x2 x3 x4 x5 x6 x7 x8 x9 x10)
    ∗ owns (c : Thread nD τ) (ms_14 t) fullShare (left_14 c t x0 x1 x2 x3 x4 x5 x6 x7 x8 x9 x10)
    ∗ owns (c : Thread nD τ) (ms_15 t) fullShare (left_15 c t x0 x1 x2 x3 x4 x5 x6 x7 x8 x9 x10)
    ∗ owns (c : Thread nD τ) (ms_16 t) fullShare (left_16 c t x0 x1 x2 x3 x4 x5 x6 x7 x8 x9 x10)
    ∗ owns (c : Thread nD τ) (ms_17 t) fullShare (left_17 c t x0 x1 x2 x3 x4 x5 x6 x7 x8 x9 x10)
    ∗ owns (c : Thread nD τ) (ms_18 t) fullShare (left_18 c t x0 x1 x2 x3 x4 x5 x6 x7 x8 x9 x10))) := by
  unfold bodyAt0
  rw [inv_eq]
  unfold left_11 left_12 left_13 left_14 left_15 left_16 left_17 left_18
  iintro ⟨⟨⟨HS0, HS1, HS2⟩, Hg⟩, Ho, H0, H1, H2, H3, H4, H5, H6, H7, H8, H9, H10, H11, H12, H13, H14, H15, H16, H17, H18⟩
  iapply ((runAt c t x0 x1 x2 x3 x4 x5 x6 x7 x8 x9 x10).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%fT0, HS0⟩, ⟨%fT1, HS1⟩, ⟨%fT2, HS2⟩⟩
  isplitl [HS0 HS1 HS2 Hg]
  · isplitl [HS0 HS1 HS2]
    · skip
      isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_eq_canon _ _ _ (cover_11 c t x0 x1 x2 x3 x4 x5 x6 x7 x8 x9 x10)
  isplitl [H12]
  · unfold owns; iexists _; isplitr
    swap; · iexact H12
    ipureintro; exact View.read_writes_eq_canon _ _ _ (cover_12 c t x0 x1 x2 x3 x4 x5 x6 x7 x8 x9 x10)
  isplitl [H13]
  · unfold owns; iexists _; isplitr
    swap; · iexact H13
    ipureintro; exact View.read_writes_eq_canon _ _ _ (cover_13 c t x0 x1 x2 x3 x4 x5 x6 x7 x8 x9 x10)
  isplitl [H14]
  · unfold owns; iexists _; isplitr
    swap; · iexact H14
    ipureintro; exact View.read_writes_eq_canon _ _ _ (cover_14 c t x0 x1 x2 x3 x4 x5 x6 x7 x8 x9 x10)
  isplitl [H15]
  · unfold owns; iexists _; isplitr
    swap; · iexact H15
    ipureintro; exact View.read_writes_eq_canon _ _ _ (cover_15 c t x0 x1 x2 x3 x4 x5 x6 x7 x8 x9 x10)
  isplitl [H16]
  · unfold owns; iexists _; isplitr
    swap; · iexact H16
    ipureintro; exact View.read_writes_eq_canon _ _ _ (cover_16 c t x0 x1 x2 x3 x4 x5 x6 x7 x8 x9 x10)
  isplitl [H17]
  · unfold owns; iexists _; isplitr
    swap; · iexact H17
    ipureintro; exact View.read_writes_eq_canon _ _ _ (cover_17 c t x0 x1 x2 x3 x4 x5 x6 x7 x8 x9 x10)
  unfold owns; iexists _; isplitr
  swap; · iexact H18
  ipureintro; exact View.read_writes_eq_canon _ _ _ (cover_18 c t x0 x1 x2 x3 x4 x5 x6 x7 x8 x9 x10)

/-- What a row-blocked input's buffer holds at point `t`: its block on the rows inside the array, `d` on the others. -/
abbrev fetched (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The pipeline's proof data: the arrays as the region finds them; an input's buffer is left as found, an output's is
    what the body makes of its inputs' buffers. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => X = Y
    | ⟨10, _⟩ => X = Y
    | ⟨11, _⟩ => ∃ d0 d1, X = left_11 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨12, _⟩ => ∃ d0 d1, X = left_12 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨13, _⟩ => ∃ d0 d1, X = left_13 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨14, _⟩ => ∃ d0 d1, X = left_14 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨15, _⟩ => ∃ d0 d1, X = left_15 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨16, _⟩ => ∃ d0 d1, X = left_16 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨17, _⟩ => ∃ d0 d1, X = left_17 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨18, _⟩ => ∃ d0 d1, X = left_18 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨_ + 19, h⟩ => absurd h (Nat.not_lt.2 (Nat.le_add_left _ _))
  Φ _ := Pipeline.ΦA spec0 c
  q _ := fullShare
  owed _ := 0

theorem clip_0 : ∀ t t' : Fin cfg0.N, (cfg0.win 0).index t = (cfg0.win 0).index t' →
    (cfg0.win 0).clip (cfg0.grid.coords t) = (cfg0.win 0).clip (cfg0.grid.coords t') := by decide +kernel
theorem clip_1 : ∀ t t' : Fin cfg0.N, (cfg0.win 1).index t = (cfg0.win 1).index t' →
    (cfg0.win 1).clip (cfg0.grid.coords t) = (cfg0.win 1).clip (cfg0.grid.coords t') := by decide +kernel

/-! What an input's buffer holds when the body is handed it. -/

theorem found_0 (c : Dev nD) (t : Fin cfg0.N) (Y) (h : (rdat m c).Finds 0 t Y) : ∃ d, Y = fetched m c 0 t d :=
  (rdat m c).finds_in_eq_fetched 0 rfl clip_0 (fun _ _ _ h => h) t Y h
theorem found_1 (c : Dev nD) (t : Fin cfg0.N) (Y) (h : (rdat m c).Finds 1 t Y) : ∃ d, Y = fetched m c 1 t d :=
  (rdat m c).finds_in_eq_fetched 1 rfl clip_1 (fun _ _ _ h => h) t Y h
theorem found_2 (c : Dev nD) (t : Fin cfg0.N) (Y) (h : (rdat m c).Finds 2 t Y) : Y = iblk m c 2 t := by
  obtain ⟨d, h⟩ := (rdat m c).finds_in_eq_fetched 2 rfl (fun _ _ _ => rfl) (fun _ _ _ h => h) t Y h
  exact h
theorem found_3 (c : Dev nD) (t : Fin cfg0.N) (Y) (h : (rdat m c).Finds 3 t Y) : Y = iblk m c 3 t := by
  obtain ⟨d, h⟩ := (rdat m c).finds_in_eq_fetched 3 rfl (fun _ _ _ => rfl) (fun _ _ _ h => h) t Y h
  exact h
theorem found_4 (c : Dev nD) (t : Fin cfg0.N) (Y) (h : (rdat m c).Finds 4 t Y) : Y = iblk m c 4 t := by
  obtain ⟨d, h⟩ := (rdat m c).finds_in_eq_fetched 4 rfl (fun _ _ _ => rfl) (fun _ _ _ h => h) t Y h
  exact h
theorem found_5 (c : Dev nD) (t : Fin cfg0.N) (Y) (h : (rdat m c).Finds 5 t Y) : Y = iblk m c 5 t := by
  obtain ⟨d, h⟩ := (rdat m c).finds_in_eq_fetched 5 rfl (fun _ _ _ => rfl) (fun _ _ _ h => h) t Y h
  exact h
theorem found_6 (c : Dev nD) (t : Fin cfg0.N) (Y) (h : (rdat m c).Finds 6 t Y) : Y = iblk m c 6 t := by
  obtain ⟨d, h⟩ := (rdat m c).finds_in_eq_fetched 6 rfl (fun _ _ _ => rfl) (fun _ _ _ h => h) t Y h
  exact h
theorem found_7 (c : Dev nD) (t : Fin cfg0.N) (Y) (h : (rdat m c).Finds 7 t Y) : Y = iblk m c 7 t := by
  obtain ⟨d, h⟩ := (rdat m c).finds_in_eq_fetched 7 rfl (fun _ _ _ => rfl) (fun _ _ _ h => h) t Y h
  exact h
theorem found_8 (c : Dev nD) (t : Fin cfg0.N) (Y) (h : (rdat m c).Finds 8 t Y) : Y = iblk m c 8 t := by
  obtain ⟨d, h⟩ := (rdat m c).finds_in_eq_fetched 8 rfl (fun _ _ _ => rfl) (fun _ _ _ h => h) t Y h
  exact h
theorem found_9 (c : Dev nD) (t : Fin cfg0.N) (Y) (h : (rdat m c).Finds 9 t Y) : Y = iblk m c 9 t := by
  obtain ⟨d, h⟩ := (rdat m c).finds_in_eq_fetched 9 rfl (fun _ _ _ => rfl) (fun _ _ _ h => h) t Y h
  exact h
theorem found_10 (c : Dev nD) (t : Fin cfg0.N) (Y) (h : (rdat m c).Finds 10 t Y) : Y = iblk m c 10 t := by
  obtain ⟨d, h⟩ := (rdat m c).finds_in_eq_fetched 10 rfl (fun _ _ _ => rfl) (fun _ _ _ h => h) t Y h
  exact h

/-- The body table's row at point `t` is the body there. -/
theorem row_eq (t : Fin cfg0.N) :
    defs₀ (F := F) .tc cfg0.body (cfg0.bodyArgs t (cfg0.slots t)) = bodyAt0 t := by
  unfold defs₀; rw [Defs.onTc_tc]

set_option maxHeartbeats 2000000 in
/-- The body obligation. -/
theorem obligation (c : Dev nD) : (rdat (F := F) m c).BodyObligation (defs₀ (F := F)) Variants.none () Set.univ := by
  intro t Y hY
  obtain ⟨d0, h0⟩ := found_0 m c t (Y 0) (hY 0)
  obtain ⟨d1, h1⟩ := found_1 m c t (Y 1) (hY 1)
  have h2 := found_2 m c t (Y 2) (hY 2)
  have h3 := found_3 m c t (Y 3) (hY 3)
  have h4 := found_4 m c t (Y 4) (hY 4)
  have h5 := found_5 m c t (Y 5) (hY 5)
  have h6 := found_6 m c t (Y 6) (hY 6)
  have h7 := found_7 m c t (Y 7) (hY 7)
  have h8 := found_8 m c t (Y 8) (hY 8)
  have h9 := found_9 m c t (Y 9) (hY 9)
  have h10 := found_10 m c t (Y 10) (hY 10)
  rw [bigSep_W0, bigSep_W0, row_eq]
  refine triple_restated (body_run c t (Y 0) (Y 1) (Y 2) (Y 3) (Y 4) (Y 5) (Y 6) (Y 7) (Y 8) (Y 9) (Y 10) (Y 11) (Y 12) (Y 13) (Y 14) (Y 15) (Y 16) (Y 17) (Y 18) ((rdat m c).owesAt () t.castSucc)) rfl .rfl fun _ => ?_
  rw [h0, h1, h2, h3, h4, h5, h6, h7, h8, h9, h10, show (rdat m c).Φ t.succ = Pipeline.ΦA spec0 c from rfl,
    show (rdat m c).owesAt () t.succ = (rdat m c).owesAt () t.castSucc from rfl]
  iintro ⟨HP, Ho, H0, H1, H2, H3, H4, H5, H6, H7, H8, H9, H10, H11, H12, H13, H14, H15, H16, H17, H18⟩
  isplitl [HP]; · iexact HP
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; · ipureintro; exact rfl
    iexact H10
  isplitl [H11]
  · iexists _; isplitr; · ipureintro; exact ⟨d0, d1, rfl⟩
    iexact H11
  isplitl [H12]
  · iexists _; isplitr; · ipureintro; exact ⟨d0, d1, rfl⟩
    iexact H12
  isplitl [H13]
  · iexists _; isplitr; · ipureintro; exact ⟨d0, d1, rfl⟩
    iexact H13
  isplitl [H14]
  · iexists _; isplitr; · ipureintro; exact ⟨d0, d1, rfl⟩
    iexact H14
  isplitl [H15]
  · iexists _; isplitr; · ipureintro; exact ⟨d0, d1, rfl⟩
    iexact H15
  isplitl [H16]
  · iexists _; isplitr; · ipureintro; exact ⟨d0, d1, rfl⟩
    iexact H16
  isplitl [H17]
  · iexists _; isplitr; · ipureintro; exact ⟨d0, d1, rfl⟩
    iexact H17
  iexists _; isplitr; · ipureintro; exact ⟨d0, d1, rfl⟩
  iexact H18

-- the run theorem's implicit arguments are found by unifying its conclusion with this one
set_option backward.isDefEq.respectTransparency.types false in
/-- Every run ends, with the arrays as the proof data says and every semaphore counter at zero. -/
theorem run_quiet : θ_run defs (onTc (τ := τ) (main (F := F))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := obligation m) (hshare := fun c => (rdat m c).share_full fun _ => rfl)
    (howed := fun _ _ => rfl) (V := V m) (hmain := hmain m Variants.none) (hA := fun _ _ => rfl) (hΦ := fun _ _ => rfl)

theorem run_main : θ_run defs (onTc (τ := τ) (main (F := F))) (s₀ m ρ)
    (Pipeline.RDat.FramePost (cfgs 0) (rdat m) (V m)) :=
  (θ_run defs _ _).mono (fun _ h => h.1) (run_quiet m ρ)

/-- The arguments are left as they were, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r hr => ⟨fun c => by
    have h := hr.1
    exact ⟨(h.arr_in c 0 rfl).trans (V_main_arg0 m c),
      (h.arr_in c 1 rfl).trans (V_main_arg1 m c),
      (h.arr_in c 2 rfl).trans (V_main_arg2 m c),
      (h.arr_in c 3 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (h.arr_in c 9 rfl).trans (V_main_arg9 m c),
      ((h c).2 main_arg10 (Pipeline.mem_restRefs_of main_arg10 (by decide) (by decide))).trans (V_main_arg10 m c)⟩, hr.2⟩) (run_quiet m ρ)

end Cert.MlpVid.Body

end
-- ==== Proof.MlpVidIdealRun.lean ====
module

public import proofs.«01_k».proof.Proof.Gen.MlpVidIdeal.Launch
public import proofs.«01_k».proof.Proof.Gen.MlpVidIdeal.Skeleton
public import proofs.«01_k».proof.Proof.Gen.MlpVidIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.MlpVidIdeal.Body
open Cert.MlpVidIdeal Cert.MlpVidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x256x2560 .bf16) (harg2 : arg2.IsWhole) (arg3 : Memref sig .tc .vmem S1x5x256x128 .f32) (harg3 : arg3.IsWhole) (arg4 : Memref sig .tc .vmem S1x6x2560 .f32) (harg4 : arg4.IsWhole) (arg5 : Memref sig .tc .vmem S640x2560 .fp8e4m3) (harg5 : arg5.IsWhole) (arg6 : Memref sig .tc .vmem S1x2560 .f32) (harg6 : arg6.IsWhole) (arg7 : Memref sig .tc .vmem S1728x2560 .fp8e4m3) (harg7 : arg7.IsWhole) (arg8 : Memref sig .tc .vmem S1728x1 .f32) (harg8 : arg8.IsWhole) (arg9 : Memref sig .tc .vmem S1728x2560 .fp8e4m3) (harg9 : arg9.IsWhole) (arg10 : Memref sig .tc .vmem S1728x1 .f32) (harg10 : arg10.IsWhole) (arg11 : Memref sig .tc .vmem S1728x2560 .fp8e4m3) (harg11 : arg11.IsWhole) (arg12 : Memref sig .tc .vmem S1x2560 .f32) (harg12 : arg12.IsWhole) (arg13 : Memref sig .tc .vmem S1x256x2560 .bf16) (harg13 : arg13.IsWhole) (arg14 : Memref sig .tc .vmem S1x256x640 .bf16) (harg14 : arg14.IsWhole) (arg15 : Memref sig .tc .vmem S1x256x640 .fp8e4m3) (harg15 : arg15.IsWhole) (arg16 : Memref sig .tc .vmem S1x1x256 .f32) (harg16 : arg16.IsWhole) (arg17 : Memref sig .tc .vmem S1x256x2560 .fp8e4m3) (harg17 : arg17.IsWhole) (arg18 : Memref sig .tc .vmem S1x1x256 .f32) (harg18 : arg18.IsWhole) (arg19 : Memref sig .tc .vmem S1x1728x256 .fp8e4m3) (harg19 : arg19.IsWhole) (arg20 : Memref sig .tc .vmem S1x1x256 .f32) (harg20 : arg20.IsWhole) (arg21 : Memref sig .tc .vmem S256x640 .f32) (harg21 : arg21.IsWhole) (arg22 : Memref sig .tc .vmem S256x2560 .f32) (harg22 : arg22.IsWhole) (arg23 : Memref sig .tc .vmem S1728x256 .f32) (harg23 : arg23.IsWhole)
    (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) :
    Σ' (L11 : List (View.Piece (Elt F) S1x256x2560 .bf16)), Σ' (L12 : List (View.Piece (Elt F) S1x256x640 .bf16)), Σ' (L13 : List (View.Piece (Elt F) S1x256x640 .fp8e4m3)), Σ' (L14 : List (View.Piece (Elt F) S1x1x256 .f32)), Σ' (L15 : List (View.Piece (Elt F) S1x256x2560 .fp8e4m3)), Σ' (L16 : List (View.Piece (Elt F) S1x1x256 .f32)), Σ' (L17 : List (View.Piece (Elt F) S1x1728x256 .fp8e4m3)), Σ' (L18 : List (View.Piece (Elt F) S1x1x256 .f32)), Σ' (LT0 : List (View.Piece (Elt F) S256x640 .f32)), Σ' (LT1 : List (View.Piece (Elt F) S256x2560 .f32)), { LT2 : List (View.Piece (Elt F) S1728x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LT0) ∗ (∃ f, arg22.view.loc (c : Thread nD τ) ↦[arg22.view.set]{fullShare} arg22.view.writes (Elt F) f LT1) ∗ (∃ f, arg23.view.loc (c : Thread nD τ) ↦[arg23.view.set]{fullShare} arg23.view.writes (Elt F) f LT2)) -∗ K ⟨⟩))
          ⊢ wp frame (wpE (defs₀ (F := F)) Variants.none c none) E (cc0_mlp_vid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, ?_, fun E K => ?run⟩
  case run =>
    simp only [cc0_mlp_vid_eq_skeleton]; unfold cc0_mlp_vid_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    isplitl [HS1]; · iexists _; iexact HS1
    iexists _; iexact HS2

end Cert.MlpVidIdeal.Body

end
-- ==== Proof.MlpVidIdealFrame.lean ====
module

public import proofs.«01_k».proof.Proof.MlpVidIdealRun
public import proofs.«01_k».proof.Proof.Gen.MlpVidIdeal.Frame
public import Idealize.ShloMosaic.Lib.Claim
public import Idealize.ShloMosaic.Lib.Pipeline.ArrRel

/-! # The run of the video feed-forward program, `MlpVidIdeal`

The row axis has 12240 rows and the kernel takes 256 at a time, so its last block on each batch entry overhangs the
arrays by 48 rows. What a staging buffer holds there is not known; the proof data is therefore RELATIONAL: an output's
buffer is what the body makes of its inputs' buffers, the two row-blocked inputs holding their blocks on the rows inside
the array and anything (`d0`, `d1`) on the others. Nothing a row inside the array ends with depends on the others. -/

@[expose] public section

set_option maxRecDepth 16384

noncomputable section

namespace Cert.MlpVidIdeal.Body
open Cert.MlpVidIdeal Cert.MlpVidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memref window 0 is staged in at point `t`, and that it is a whole buffer. -/
abbrev ms_0 (t : Fin cfg0.N) : Memref sig .tc .vmem S1x256x2560 .bf16 := win0_0.stage (cfg0.slots t 0)
abbrev hs_0 (t : Fin cfg0.N) : (ms_0 t).IsWhole := hstage0_0 ((cfg0.slots t 0).cast nbuf0_0)
/-- The memref window 1 is staged in at point `t`, and that it is a whole buffer. -/
abbrev ms_1 (t : Fin cfg0.N) : Memref sig .tc .vmem S1x5x256x128 .f32 := win0_1.stage (cfg0.slots t 1)
abbrev hs_1 (t : Fin cfg0.N) : (ms_1 t).IsWhole := hstage0_1 ((cfg0.slots t 1).cast nbuf0_1)
/-- The memref window 2 is staged in at point `t`, and that it is a whole buffer. -/
abbrev ms_2 (t : Fin cfg0.N) : Memref sig .tc .vmem S1x6x2560 .f32 := win0_2.stage (cfg0.slots t 2)
abbrev hs_2 (t : Fin cfg0.N) : (ms_2 t).IsWhole := hstage0_2 ((cfg0.slots t 2).cast nbuf0_2)
/-- The memref window 3 is staged in at point `t`, and that it is a whole buffer. -/
abbrev ms_3 (t : Fin cfg0.N) : Memref sig .tc .vmem S640x2560 .fp8e4m3 := win0_3.stage (cfg0.slots t 3)
abbrev hs_3 (t : Fin cfg0.N) : (ms_3 t).IsWhole := hstage0_3 ((cfg0.slots t 3).cast nbuf0_3)
/-- The memref window 4 is staged in at point `t`, and that it is a whole buffer. -/
abbrev ms_4 (t : Fin cfg0.N) : Memref sig .tc .vmem S1x2560 .f32 := win0_4.stage (cfg0.slots t 4)
abbrev hs_4 (t : Fin cfg0.N) : (ms_4 t).IsWhole := hstage0_4 ((cfg0.slots t 4).cast nbuf0_4)
/-- The memref window 5 is staged in at point `t`, and that it is a whole buffer. -/
abbrev ms_5 (t : Fin cfg0.N) : Memref sig .tc .vmem S1728x2560 .fp8e4m3 := win0_5.stage (cfg0.slots t 5)
abbrev hs_5 (t : Fin cfg0.N) : (ms_5 t).IsWhole := hstage0_5 ((cfg0.slots t 5).cast nbuf0_5)
/-- The memref window 6 is staged in at point `t`, and that it is a whole buffer. -/
abbrev ms_6 (t : Fin cfg0.N) : Memref sig .tc .vmem S1728x1 .f32 := win0_6.stage (cfg0.slots t 6)
abbrev hs_6 (t : Fin cfg0.N) : (ms_6 t).IsWhole := hstage0_6 ((cfg0.slots t 6).cast nbuf0_6)
/-- The memref window 7 is staged in at point `t`, and that it is a whole buffer. -/
abbrev ms_7 (t : Fin cfg0.N) : Memref sig .tc .vmem S1728x2560 .fp8e4m3 := win0_7.stage (cfg0.slots t 7)
abbrev hs_7 (t : Fin cfg0.N) : (ms_7 t).IsWhole := hstage0_7 ((cfg0.slots t 7).cast nbuf0_7)
/-- The memref window 8 is staged in at point `t`, and that it is a whole buffer. -/
abbrev ms_8 (t : Fin cfg0.N) : Memref sig .tc .vmem S1728x1 .f32 := win0_8.stage (cfg0.slots t 8)
abbrev hs_8 (t : Fin cfg0.N) : (ms_8 t).IsWhole := hstage0_8 ((cfg0.slots t 8).cast nbuf0_8)
/-- The memref window 9 is staged in at point `t`, and that it is a whole buffer. -/
abbrev ms_9 (t : Fin cfg0.N) : Memref sig .tc .vmem S1728x2560 .fp8e4m3 := win0_9.stage (cfg0.slots t 9)
abbrev hs_9 (t : Fin cfg0.N) : (ms_9 t).IsWhole := hstage0_9 ((cfg0.slots t 9).cast nbuf0_9)
/-- The memref window 10 is staged in at point `t`, and that it is a whole buffer. -/
abbrev ms_10 (t : Fin cfg0.N) : Memref sig .tc .vmem S1x2560 .f32 := win0_10.stage (cfg0.slots t 10)
abbrev hs_10 (t : Fin cfg0.N) : (ms_10 t).IsWhole := hstage0_10 ((cfg0.slots t 10).cast nbuf0_10)
/-- The memref window 11 is staged in at point `t`, and that it is a whole buffer. -/
abbrev ms_11 (t : Fin cfg0.N) : Memref sig .tc .vmem S1x256x2560 .bf16 := win0_11.stage (cfg0.slots t 11)
abbrev hs_11 (t : Fin cfg0.N) : (ms_11 t).IsWhole := hstage0_11 ((cfg0.slots t 11).cast nbuf0_11)
/-- The memref window 12 is staged in at point `t`, and that it is a whole buffer. -/
abbrev ms_12 (t : Fin cfg0.N) : Memref sig .tc .vmem S1x256x640 .bf16 := win0_12.stage (cfg0.slots t 12)
abbrev hs_12 (t : Fin cfg0.N) : (ms_12 t).IsWhole := hstage0_12 ((cfg0.slots t 12).cast nbuf0_12)
/-- The memref window 13 is staged in at point `t`, and that it is a whole buffer. -/
abbrev ms_13 (t : Fin cfg0.N) : Memref sig .tc .vmem S1x256x640 .fp8e4m3 := win0_13.stage (cfg0.slots t 13)
abbrev hs_13 (t : Fin cfg0.N) : (ms_13 t).IsWhole := hstage0_13 ((cfg0.slots t 13).cast nbuf0_13)
/-- The memref window 14 is staged in at point `t`, and that it is a whole buffer. -/
abbrev ms_14 (t : Fin cfg0.N) : Memref sig .tc .vmem S1x1x256 .f32 := win0_14.stage (cfg0.slots t 14)
abbrev hs_14 (t : Fin cfg0.N) : (ms_14 t).IsWhole := hstage0_14 ((cfg0.slots t 14).cast nbuf0_14)
/-- The memref window 15 is staged in at point `t`, and that it is a whole buffer. -/
abbrev ms_15 (t : Fin cfg0.N) : Memref sig .tc .vmem S1x256x2560 .fp8e4m3 := win0_15.stage (cfg0.slots t 15)
abbrev hs_15 (t : Fin cfg0.N) : (ms_15 t).IsWhole := hstage0_15 ((cfg0.slots t 15).cast nbuf0_15)
/-- The memref window 16 is staged in at point `t`, and that it is a whole buffer. -/
abbrev ms_16 (t : Fin cfg0.N) : Memref sig .tc .vmem S1x1x256 .f32 := win0_16.stage (cfg0.slots t 16)
abbrev hs_16 (t : Fin cfg0.N) : (ms_16 t).IsWhole := hstage0_16 ((cfg0.slots t 16).cast nbuf0_16)
/-- The memref window 17 is staged in at point `t`, and that it is a whole buffer. -/
abbrev ms_17 (t : Fin cfg0.N) : Memref sig .tc .vmem S1x1728x256 .fp8e4m3 := win0_17.stage (cfg0.slots t 17)
abbrev hs_17 (t : Fin cfg0.N) : (ms_17 t).IsWhole := hstage0_17 ((cfg0.slots t 17).cast nbuf0_17)
/-- The memref window 18 is staged in at point `t`, and that it is a whole buffer. -/
abbrev ms_18 (t : Fin cfg0.N) : Memref sig .tc .vmem S1x1x256 .f32 := win0_18.stage (cfg0.slots t 18)
abbrev hs_18 (t : Fin cfg0.N) : (ms_18 t).IsWhole := hstage0_18 ((cfg0.slots t 18).cast nbuf0_18)
/-- The kernel's scratch buffers. -/
abbrev sc_0 : Memref sig .tc .vmem S256x640 .f32 := Memref.whole cc0_scratch0
abbrev sc_1 : Memref sig .tc .vmem S256x2560 .f32 := Memref.whole cc0_scratch1
abbrev sc_2 : Memref sig .tc .vmem S1728x256 .f32 := Memref.whole cc0_scratch2

/-- The frame's invariant with the scratch buffers as memrefs owned at some contents. -/
theorem inv_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d)) ∗ (∃ r, prngReg c r)) := by
  unfold Pipeline.ΦA; rw [scopedRest0_eq]; simp only [sc_0, sc_1, sc_2, owns_whole]; try rfl

/-- The body's run at grid point `t`. -/
def runAt (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) :=
  kernelRun0_A (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) sc_0 (Memref.isWhole_whole _) sc_1 (Memref.isWhole_whole _) sc_2 (Memref.isWhole_whole _) x0 x1 x2 x3 x4 x5 x6 x7 x8 x9 x10

/-! The body's stores fill each output's buffer. -/

theorem covers_12 (c : Dev nD) (i : grid0.Coords) (arg2 : Memref sig .tc .vmem S1x256x2560 .bf16) (harg2 : arg2.IsWhole) (arg3 : Memref sig .tc .vmem S1x5x256x128 .f32) (harg3 : arg3.IsWhole) (arg4 : Memref sig .tc .vmem S1x6x2560 .f32) (harg4 : arg4.IsWhole) (arg5 : Memref sig .tc .vmem S640x2560 .fp8e4m3) (harg5 : arg5.IsWhole) (arg6 : Memref sig .tc .vmem S1x2560 .f32) (harg6 : arg6.IsWhole) (arg7 : Memref sig .tc .vmem S1728x2560 .fp8e4m3) (harg7 : arg7.IsWhole) (arg8 : Memref sig .tc .vmem S1728x1 .f32) (harg8 : arg8.IsWhole) (arg9 : Memref sig .tc .vmem S1728x2560 .fp8e4m3) (harg9 : arg9.IsWhole) (arg10 : Memref sig .tc .vmem S1728x1 .f32) (harg10 : arg10.IsWhole) (arg11 : Memref sig .tc .vmem S1728x2560 .fp8e4m3) (harg11 : arg11.IsWhole) (arg12 : Memref sig .tc .vmem S1x2560 .f32) (harg12 : arg12.IsWhole) (arg13 : Memref sig .tc .vmem S1x256x2560 .bf16) (harg13 : arg13.IsWhole) (arg14 : Memref sig .tc .vmem S1x256x640 .bf16) (harg14 : arg14.IsWhole) (arg15 : Memref sig .tc .vmem S1x256x640 .fp8e4m3) (harg15 : arg15.IsWhole) (arg16 : Memref sig .tc .vmem S1x1x256 .f32) (harg16 : arg16.IsWhole) (arg17 : Memref sig .tc .vmem S1x256x2560 .fp8e4m3) (harg17 : arg17.IsWhole) (arg18 : Memref sig .tc .vmem S1x1x256 .f32) (harg18 : arg18.IsWhole) (arg19 : Memref sig .tc .vmem S1x1728x256 .fp8e4m3) (harg19 : arg19.IsWhole) (arg20 : Memref sig .tc .vmem S1x1x256 .f32) (harg20 : arg20.IsWhole) (arg21 : Memref sig .tc .vmem S256x640 .f32) (harg21 : arg21.IsWhole) (arg22 : Memref sig .tc .vmem S256x2560 .f32) (harg22 : arg22.IsWhole) (arg23 : Memref sig .tc .vmem S1728x256 .f32) (harg23 : arg23.IsWhole)
    (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x256x640.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 S1x256x128.size (by sl_kernel_rfl) y
theorem cover_11 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x256x2560.Idx) :
    ∃ pc ∈ (runAt c t x0 x1 x2 x3 x4 x5 x6 x7 x8 x9 x10).1, y ∈ pc.1.set :=
  View.cover_of_tiledL (runAt c t x0 x1 x2 x3 x4 x5 x6 x7 x8 x9 x10).1 S1x256x2560.size (by sl_kernel_rfl) y
theorem cover_12 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x256x640.Idx) :
    ∃ pc ∈ (runAt c t x0 x1 x2 x3 x4 x5 x6 x7 x8 x9 x10).2.1, y ∈ pc.1.set :=
  covers_12 c _ _ _ _ _ _ _ _ _ _ _ _ _ _ _ _ _ _ _ _ _ _ _ _ _ _ _ _ _ _ _ _ _ _ _ _ _ _ _ _ _ _ _ _ _ _ _ _ _ _ _ _ _ _ _ _ y
theorem cover_13 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x256x640.Idx) :
    ∃ pc ∈ (runAt c t x0 x1 x2 x3 x4 x5 x6 x7 x8 x9 x10).2.2.1, y ∈ pc.1.set :=
  View.cover_of_tiledL (runAt c t x0 x1 x2 x3 x4 x5 x6 x7 x8 x9 x10).2.2.1 S1x256x640.size (by sl_kernel_rfl) y
theorem cover_14 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x1x256.Idx) :
    ∃ pc ∈ (runAt c t x0 x1 x2 x3 x4 x5 x6 x7 x8 x9 x10).2.2.2.1, y ∈ pc.1.set :=
  View.cover_of_tiledL (runAt c t x0 x1 x2 x3 x4 x5 x6 x7 x8 x9 x10).2.2.2.1 S1x1x256.size (by sl_kernel_rfl) y
theorem cover_15 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x256x2560.Idx) :
    ∃ pc ∈ (runAt c t x0 x1 x2 x3 x4 x5 x6 x7 x8 x9 x10).2.2.2.2.1, y ∈ pc.1.set :=
  View.cover_of_tiledL (runAt c t x0 x1 x2 x3 x4 x5 x6 x7 x8 x9 x10).2.2.2.2.1 S1x256x2560.size (by sl_kernel_rfl) y
theorem cover_16 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x1x256.Idx) :
    ∃ pc ∈ (runAt c t x0 x1 x2 x3 x4 x5 x6 x7 x8 x9 x10).2.2.2.2.2.1, y ∈ pc.1.set :=
  View.cover_of_tiledL (runAt c t x0 x1 x2 x3 x4 x5 x6 x7 x8 x9 x10).2.2.2.2.2.1 S1x1x256.size (by sl_kernel_rfl) y
theorem cover_17 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x1728x256.Idx) :
    ∃ pc ∈ (runAt c t x0 x1 x2 x3 x4 x5 x6 x7 x8 x9 x10).2.2.2.2.2.2.1, y ∈ pc.1.set :=
  View.cover_of_tiledL (runAt c t x0 x1 x2 x3 x4 x5 x6 x7 x8 x9 x10).2.2.2.2.2.2.1 S1x1728x256.size (by sl_kernel_rfl) y
theorem cover_18 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (y : S1x1x256.Idx) :
    ∃ pc ∈ (runAt c t x0 x1 x2 x3 x4 x5 x6 x7 x8 x9 x10).2.2.2.2.2.2.2.1, y ∈ pc.1.set :=
  View.cover_of_tiledL (runAt c t x0 x1 x2 x3 x4 x5 x6 x7 x8 x9 x10).2.2.2.2.2.2.2.1 S1x1x256.size (by sl_kernel_rfl) y

/-- What the body leaves in output window 11's buffer at point `t`, its inputs' buffers holding `x0 … x10`. -/
def left_11 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x256x2560 .bf16 :=
  View.canon (runAt c t x0 x1 x2 x3 x4 x5 x6 x7 x8 x9 x10).1
/-- What the body leaves in output window 12's buffer at point `t`, its inputs' buffers holding `x0 … x10`. -/
def left_12 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x256x640 .bf16 :=
  View.canon (runAt c t x0 x1 x2 x3 x4 x5 x6 x7 x8 x9 x10).2.1
/-- What the body leaves in output window 13's buffer at point `t`, its inputs' buffers holding `x0 … x10`. -/
def left_13 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x256x640 .fp8e4m3 :=
  View.canon (runAt c t x0 x1 x2 x3 x4 x5 x6 x7 x8 x9 x10).2.2.1
/-- What the body leaves in output window 14's buffer at point `t`, its inputs' buffers holding `x0 … x10`. -/
def left_14 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x1x256 .f32 :=
  View.canon (runAt c t x0 x1 x2 x3 x4 x5 x6 x7 x8 x9 x10).2.2.2.1
/-- What the body leaves in output window 15's buffer at point `t`, its inputs' buffers holding `x0 … x10`. -/
def left_15 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x256x2560 .fp8e4m3 :=
  View.canon (runAt c t x0 x1 x2 x3 x4 x5 x6 x7 x8 x9 x10).2.2.2.2.1
/-- What the body leaves in output window 16's buffer at point `t`, its inputs' buffers holding `x0 … x10`. -/
def left_16 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x1x256 .f32 :=
  View.canon (runAt c t x0 x1 x2 x3 x4 x5 x6 x7 x8 x9 x10).2.2.2.2.2.1
/-- What the body leaves in output window 17's buffer at point `t`, its inputs' buffers holding `x0 … x10`. -/
def left_17 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x1728x256 .fp8e4m3 :=
  View.canon (runAt c t x0 x1 x2 x3 x4 x5 x6 x7 x8 x9 x10).2.2.2.2.2.2.1
/-- What the body leaves in output window 18's buffer at point `t`, its inputs' buffers holding `x0 … x10`. -/
def left_18 (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) : Vec F S1x1x256 .f32 :=
  View.canon (runAt c t x0 x1 x2 x3 x4 x5 x6 x7 x8 x9 x10).2.2.2.2.2.2.2.1

set_option maxHeartbeats 2000000 in
/-- The body at grid point `t`, whatever its inputs' buffers hold. -/
theorem body_run (c : Dev nD) (t : Fin cfg0.N) (x0 : Vec F S1x256x2560 .bf16) (x1 : Vec F S1x5x256x128 .f32) (x2 : Vec F S1x6x2560 .f32) (x3 : Vec F S640x2560 .fp8e4m3) (x4 : Vec F S1x2560 .f32) (x5 : Vec F S1728x2560 .fp8e4m3) (x6 : Vec F S1728x1 .f32) (x7 : Vec F S1728x2560 .fp8e4m3) (x8 : Vec F S1728x1 .f32) (x9 : Vec F S1728x2560 .fp8e4m3) (x10 : Vec F S1x2560 .f32) (x11 : Vec F S1x256x2560 .bf16) (x12 : Vec F S1x256x640 .bf16) (x13 : Vec F S1x256x640 .fp8e4m3) (x14 : Vec F S1x1x256 .f32) (x15 : Vec F S1x256x2560 .fp8e4m3) (x16 : Vec F S1x1x256 .f32) (x17 : Vec F S1x1728x256 .fp8e4m3) (x18 : Vec F S1x1x256 .f32) (O : sProp 𝕄) :
    iprop(Pipeline.ΦA spec0 c ∗ O
    ∗ owns (c : Thread nD τ) (ms_0 t) fullShare x0
    ∗ owns (c : Thread nD τ) (ms_1 t) fullShare x1
    ∗ owns (c : Thread nD τ) (ms_2 t) fullShare x2
    ∗ owns (c : Thread nD τ) (ms_3 t) fullShare x3
    ∗ owns (c : Thread nD τ) (ms_4 t) fullShare x4
    ∗ owns (c : Thread nD τ) (ms_5 t) fullShare x5
    ∗ owns (c : Thread nD τ) (ms_6 t) fullShare x6
    ∗ owns (c : Thread nD τ) (ms_7 t) fullShare x7
    ∗ owns (c : Thread nD τ) (ms_8 t) fullShare x8
    ∗ owns (c : Thread nD τ) (ms_9 t) fullShare x9
    ∗ owns (c : Thread nD τ) (ms_10 t) fullShare x10
    ∗ owns (c : Thread nD τ) (ms_11 t) fullShare x11
    ∗ owns (c : Thread nD τ) (ms_12 t) fullShare x12
    ∗ owns (c : Thread nD τ) (ms_13 t) fullShare x13
    ∗ owns (c : Thread nD τ) (ms_14 t) fullShare x14
    ∗ owns (c : Thread nD τ) (ms_15 t) fullShare x15
    ∗ owns (c : Thread nD τ) (ms_16 t) fullShare x16
    ∗ owns (c : Thread nD τ) (ms_17 t) fullShare x17
    ∗ owns (c : Thread nD τ) (ms_18 t) fullShare x18)
    ⊢ wp frame (wpE (defs₀ (F := F)) Variants.none c none) Set.univ (bodyAt0 t) (fun _ => iprop(Pipeline.ΦA spec0 c ∗ O
    ∗ owns (c : Thread nD τ) (ms_0 t) fullShare x0
    ∗ owns (c : Thread nD τ) (ms_1 t) fullShare x1
    ∗ owns (c : Thread nD τ) (ms_2 t) fullShare x2
    ∗ owns (c : Thread nD τ) (ms_3 t) fullShare x3
    ∗ owns (c : Thread nD τ) (ms_4 t) fullShare x4
    ∗ owns (c : Thread nD τ) (ms_5 t) fullShare x5
    ∗ owns (c : Thread nD τ) (ms_6 t) fullShare x6
    ∗ owns (c : Thread nD τ) (ms_7 t) fullShare x7
    ∗ owns (c : Thread nD τ) (ms_8 t) fullShare x8
    ∗ owns (c : Thread nD τ) (ms_9 t) fullShare x9
    ∗ owns (c : Thread nD τ) (ms_10 t) fullShare x10
    ∗ owns (c : Thread nD τ) (ms_11 t) fullShare (left_11 c t x0 x1 x2 x3 x4 x5 x6 x7 x8 x9 x10)
    ∗ owns (c : Thread nD τ) (ms_12 t) fullShare (left_12 c t x0 x1 x2 x3 x4 x5 x6 x7 x8 x9 x10)
    ∗ owns (c : Thread nD τ) (ms_13 t) fullShare (left_13 c t x0 x1 x2 x3 x4 x5 x6 x7 x8 x9 x10)
    ∗ owns (c : Thread nD τ) (ms_14 t) fullShare (left_14 c t x0 x1 x2 x3 x4 x5 x6 x7 x8 x9 x10)
    ∗ owns (c : Thread nD τ) (ms_15 t) fullShare (left_15 c t x0 x1 x2 x3 x4 x5 x6 x7 x8 x9 x10)
    ∗ owns (c : Thread nD τ) (ms_16 t) fullShare (left_16 c t x0 x1 x2 x3 x4 x5 x6 x7 x8 x9 x10)
    ∗ owns (c : Thread nD τ) (ms_17 t) fullShare (left_17 c t x0 x1 x2 x3 x4 x5 x6 x7 x8 x9 x10)
    ∗ owns (c : Thread nD τ) (ms_18 t) fullShare (left_18 c t x0 x1 x2 x3 x4 x5 x6 x7 x8 x9 x10))) := by
  unfold bodyAt0
  rw [inv_eq]
  unfold left_11 left_12 left_13 left_14 left_15 left_16 left_17 left_18
  iintro ⟨⟨⟨HS0, HS1, HS2⟩, Hg⟩, Ho, H0, H1, H2, H3, H4, H5, H6, H7, H8, H9, H10, H11, H12, H13, H14, H15, H16, H17, H18⟩
  iapply ((runAt c t x0 x1 x2 x3 x4 x5 x6 x7 x8 x9 x10).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%fT0, HS0⟩, ⟨%fT1, HS1⟩, ⟨%fT2, HS2⟩⟩
  isplitl [HS0 HS1 HS2 Hg]
  · isplitl [HS0 HS1 HS2]
    · skip
      isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_eq_canon _ _ _ (cover_11 c t x0 x1 x2 x3 x4 x5 x6 x7 x8 x9 x10)
  isplitl [H12]
  · unfold owns; iexists _; isplitr
    swap; · iexact H12
    ipureintro; exact View.read_writes_eq_canon _ _ _ (cover_12 c t x0 x1 x2 x3 x4 x5 x6 x7 x8 x9 x10)
  isplitl [H13]
  · unfold owns; iexists _; isplitr
    swap; · iexact H13
    ipureintro; exact View.read_writes_eq_canon _ _ _ (cover_13 c t x0 x1 x2 x3 x4 x5 x6 x7 x8 x9 x10)
  isplitl [H14]
  · unfold owns; iexists _; isplitr
    swap; · iexact H14
    ipureintro; exact View.read_writes_eq_canon _ _ _ (cover_14 c t x0 x1 x2 x3 x4 x5 x6 x7 x8 x9 x10)
  isplitl [H15]
  · unfold owns; iexists _; isplitr
    swap; · iexact H15
    ipureintro; exact View.read_writes_eq_canon _ _ _ (cover_15 c t x0 x1 x2 x3 x4 x5 x6 x7 x8 x9 x10)
  isplitl [H16]
  · unfold owns; iexists _; isplitr
    swap; · iexact H16
    ipureintro; exact View.read_writes_eq_canon _ _ _ (cover_16 c t x0 x1 x2 x3 x4 x5 x6 x7 x8 x9 x10)
  isplitl [H17]
  · unfold owns; iexists _; isplitr
    swap; · iexact H17
    ipureintro; exact View.read_writes_eq_canon _ _ _ (cover_17 c t x0 x1 x2 x3 x4 x5 x6 x7 x8 x9 x10)
  unfold owns; iexists _; isplitr
  swap; · iexact H18
  ipureintro; exact View.read_writes_eq_canon _ _ _ (cover_18 c t x0 x1 x2 x3 x4 x5 x6 x7 x8 x9 x10)

/-- What a row-blocked input's buffer holds at point `t`: its block on the rows inside the array, `d` on the others. -/
abbrev fetched (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The pipeline's proof data: the arrays as the region finds them; an input's buffer is left as found, an output's is
    what the body makes of its inputs' buffers. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => X = Y
    | ⟨10, _⟩ => X = Y
    | ⟨11, _⟩ => ∃ d0 d1, X = left_11 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨12, _⟩ => ∃ d0 d1, X = left_12 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨13, _⟩ => ∃ d0 d1, X = left_13 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨14, _⟩ => ∃ d0 d1, X = left_14 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨15, _⟩ => ∃ d0 d1, X = left_15 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨16, _⟩ => ∃ d0 d1, X = left_16 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨17, _⟩ => ∃ d0 d1, X = left_17 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨18, _⟩ => ∃ d0 d1, X = left_18 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t)
    | ⟨_ + 19, h⟩ => absurd h (Nat.not_lt.2 (Nat.le_add_left _ _))
  Φ _ := Pipeline.ΦA spec0 c
  q _ := fullShare
  owed _ := 0

theorem clip_0 : ∀ t t' : Fin cfg0.N, (cfg0.win 0).index t = (cfg0.win 0).index t' →
    (cfg0.win 0).clip (cfg0.grid.coords t) = (cfg0.win 0).clip (cfg0.grid.coords t') := by decide +kernel
theorem clip_1 : ∀ t t' : Fin cfg0.N, (cfg0.win 1).index t = (cfg0.win 1).index t' →
    (cfg0.win 1).clip (cfg0.grid.coords t) = (cfg0.win 1).clip (cfg0.grid.coords t') := by decide +kernel

/-! What an input's buffer holds when the body is handed it. -/

theorem found_0 (c : Dev nD) (t : Fin cfg0.N) (Y) (h : (rdat m c).Finds 0 t Y) : ∃ d, Y = fetched m c 0 t d :=
  (rdat m c).finds_in_eq_fetched 0 rfl clip_0 (fun _ _ _ h => h) t Y h
theorem found_1 (c : Dev nD) (t : Fin cfg0.N) (Y) (h : (rdat m c).Finds 1 t Y) : ∃ d, Y = fetched m c 1 t d :=
  (rdat m c).finds_in_eq_fetched 1 rfl clip_1 (fun _ _ _ h => h) t Y h
theorem found_2 (c : Dev nD) (t : Fin cfg0.N) (Y) (h : (rdat m c).Finds 2 t Y) : Y = iblk m c 2 t := by
  obtain ⟨d, h⟩ := (rdat m c).finds_in_eq_fetched 2 rfl (fun _ _ _ => rfl) (fun _ _ _ h => h) t Y h
  exact h
theorem found_3 (c : Dev nD) (t : Fin cfg0.N) (Y) (h : (rdat m c).Finds 3 t Y) : Y = iblk m c 3 t := by
  obtain ⟨d, h⟩ := (rdat m c).finds_in_eq_fetched 3 rfl (fun _ _ _ => rfl) (fun _ _ _ h => h) t Y h
  exact h
theorem found_4 (c : Dev nD) (t : Fin cfg0.N) (Y) (h : (rdat m c).Finds 4 t Y) : Y = iblk m c 4 t := by
  obtain ⟨d, h⟩ := (rdat m c).finds_in_eq_fetched 4 rfl (fun _ _ _ => rfl) (fun _ _ _ h => h) t Y h
  exact h
theorem found_5 (c : Dev nD) (t : Fin cfg0.N) (Y) (h : (rdat m c).Finds 5 t Y) : Y = iblk m c 5 t := by
  obtain ⟨d, h⟩ := (rdat m c).finds_in_eq_fetched 5 rfl (fun _ _ _ => rfl) (fun _ _ _ h => h) t Y h
  exact h
theorem found_6 (c : Dev nD) (t : Fin cfg0.N) (Y) (h : (rdat m c).Finds 6 t Y) : Y = iblk m c 6 t := by
  obtain ⟨d, h⟩ := (rdat m c).finds_in_eq_fetched 6 rfl (fun _ _ _ => rfl) (fun _ _ _ h => h) t Y h
  exact h
theorem found_7 (c : Dev nD) (t : Fin cfg0.N) (Y) (h : (rdat m c).Finds 7 t Y) : Y = iblk m c 7 t := by
  obtain ⟨d, h⟩ := (rdat m c).finds_in_eq_fetched 7 rfl (fun _ _ _ => rfl) (fun _ _ _ h => h) t Y h
  exact h
theorem found_8 (c : Dev nD) (t : Fin cfg0.N) (Y) (h : (rdat m c).Finds 8 t Y) : Y = iblk m c 8 t := by
  obtain ⟨d, h⟩ := (rdat m c).finds_in_eq_fetched 8 rfl (fun _ _ _ => rfl) (fun _ _ _ h => h) t Y h
  exact h
theorem found_9 (c : Dev nD) (t : Fin cfg0.N) (Y) (h : (rdat m c).Finds 9 t Y) : Y = iblk m c 9 t := by
  obtain ⟨d, h⟩ := (rdat m c).finds_in_eq_fetched 9 rfl (fun _ _ _ => rfl) (fun _ _ _ h => h) t Y h
  exact h
theorem found_10 (c : Dev nD) (t : Fin cfg0.N) (Y) (h : (rdat m c).Finds 10 t Y) : Y = iblk m c 10 t := by
  obtain ⟨d, h⟩ := (rdat m c).finds_in_eq_fetched 10 rfl (fun _ _ _ => rfl) (fun _ _ _ h => h) t Y h
  exact h

/-- The body table's row at point `t` is the body there. -/
theorem row_eq (t : Fin cfg0.N) :
    defs₀ (F := F) .tc cfg0.body (cfg0.bodyArgs t (cfg0.slots t)) = bodyAt0 t := by
  unfold defs₀; rw [Defs.onTc_tc]

set_option maxHeartbeats 2000000 in
/-- The body obligation. -/
theorem obligation (c : Dev nD) : (rdat (F := F) m c).BodyObligation (defs₀ (F := F)) Variants.none () Set.univ := by
  intro t Y hY
  obtain ⟨d0, h0⟩ := found_0 m c t (Y 0) (hY 0)
  obtain ⟨d1, h1⟩ := found_1 m c t (Y 1) (hY 1)
  have h2 := found_2 m c t (Y 2) (hY 2)
  have h3 := found_3 m c t (Y 3) (hY 3)
  have h4 := found_4 m c t (Y 4) (hY 4)
  have h5 := found_5 m c t (Y 5) (hY 5)
  have h6 := found_6 m c t (Y 6) (hY 6)
  have h7 := found_7 m c t (Y 7) (hY 7)
  have h8 := found_8 m c t (Y 8) (hY 8)
  have h9 := found_9 m c t (Y 9) (hY 9)
  have h10 := found_10 m c t (Y 10) (hY 10)
  rw [bigSep_W0, bigSep_W0, row_eq]
  refine triple_restated (body_run c t (Y 0) (Y 1) (Y 2) (Y 3) (Y 4) (Y 5) (Y 6) (Y 7) (Y 8) (Y 9) (Y 10) (Y 11) (Y 12) (Y 13) (Y 14) (Y 15) (Y 16) (Y 17) (Y 18) ((rdat m c).owesAt () t.castSucc)) rfl .rfl fun _ => ?_
  rw [h0, h1, h2, h3, h4, h5, h6, h7, h8, h9, h10, show (rdat m c).Φ t.succ = Pipeline.ΦA spec0 c from rfl,
    show (rdat m c).owesAt () t.succ = (rdat m c).owesAt () t.castSucc from rfl]
  iintro ⟨HP, Ho, H0, H1, H2, H3, H4, H5, H6, H7, H8, H9, H10, H11, H12, H13, H14, H15, H16, H17, H18⟩
  isplitl [HP]; · iexact HP
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; · ipureintro; exact rfl
    iexact H10
  isplitl [H11]
  · iexists _; isplitr; · ipureintro; exact ⟨d0, d1, rfl⟩
    iexact H11
  isplitl [H12]
  · iexists _; isplitr; · ipureintro; exact ⟨d0, d1, rfl⟩
    iexact H12
  isplitl [H13]
  · iexists _; isplitr; · ipureintro; exact ⟨d0, d1, rfl⟩
    iexact H13
  isplitl [H14]
  · iexists _; isplitr; · ipureintro; exact ⟨d0, d1, rfl⟩
    iexact H14
  isplitl [H15]
  · iexists _; isplitr; · ipureintro; exact ⟨d0, d1, rfl⟩
    iexact H15
  isplitl [H16]
  · iexists _; isplitr; · ipureintro; exact ⟨d0, d1, rfl⟩
    iexact H16
  isplitl [H17]
  · iexists _; isplitr; · ipureintro; exact ⟨d0, d1, rfl⟩
    iexact H17
  iexists _; isplitr; · ipureintro; exact ⟨d0, d1, rfl⟩
  iexact H18

-- the run theorem's implicit arguments are found by unifying its conclusion with this one
set_option backward.isDefEq.respectTransparency.types false in
/-- Every run ends, with the arrays as the proof data says and every semaphore counter at zero. -/
theorem run_quiet : θ_run defs (onTc (τ := τ) (main (F := F))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := obligation m) (hshare := fun c => (rdat m c).share_full fun _ => rfl)
    (howed := fun _ _ => rfl) (V := V m) (hmain := hmain m Variants.none) (hA := fun _ _ => rfl) (hΦ := fun _ _ => rfl)

theorem run_main : θ_run defs (onTc (τ := τ) (main (F := F))) (s₀ m ρ)
    (Pipeline.RDat.FramePost (cfgs 0) (rdat m) (V m)) :=
  (θ_run defs _ _).mono (fun _ h => h.1) (run_quiet m ρ)

/-- The arguments are left as they were, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r hr => ⟨fun c => by
    have h := hr.1
    exact ⟨(h.arr_in c 0 rfl).trans (V_main_arg0 m c),
      (h.arr_in c 1 rfl).trans (V_main_arg1 m c),
      (h.arr_in c 2 rfl).trans (V_main_arg2 m c),
      (h.arr_in c 3 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (h.arr_in c 9 rfl).trans (V_main_arg9 m c),
      ((h c).2 main_arg10 (Pipeline.mem_restRefs_of main_arg10 (by decide) (by decide))).trans (V_main_arg10 m c)⟩, hr.2⟩) (run_quiet m ρ)

end Cert.MlpVidIdeal.Body

end
-- ==== Proof.Spec.lean ====
/-
  The layer's mathematics on one token, over the extended reals: the per-token quantiser, the scaled linear map, the
  modulated RMS norm and the SwiGLU branch, each a function of plain rows. The kernels and the references are both
  brought to these functions, row by row. The laws that connect the kernels' arithmetic with the references' stand here too:
  a product with a reciprocal is a quotient (the divisor is never zero), and a maximum taken over slices is the whole one.
-/
module

public import Idealize.ShloMosaic.Lib.Pipeline.ValueKit
public import Idealize.ShloMosaic.Lib.Pointwise
public import Idealize.ShloMosaic.Lib.IdealHost

@[expose] public section

set_option maxRecDepth 16384

noncomputable section

namespace Cert.Spec

open Idealize.ShloMosaic

/-- The constants the programs name: 448 and -448, the maximum's start, the norm's eps, and the row lengths it divides by. -/
abbrev c448 : EReal := Ideal.ofBits .f32 0x43E00000#32
abbrev n448 : EReal := Ideal.ofBits .f32 0xC3E00000#32
abbrev start : EReal := Ideal.ofBits .f32 0xFF800000#32
abbrev eps : EReal := Ideal.ofBits .f32 0x358637BD#32
abbrev c2560 : EReal := Ideal.ofBits .f32 0x45200000#32
abbrev c128 : EReal := Ideal.ofBits .f32 0x43000000#32

theorem c448_eq : c448 = ((448 : ℝ) : EReal) := by
  simp [c448, Ideal.ofBits, Ideal.ieee]
  rw [← EReal.coe_mul]
  norm_num
theorem c2560_eq : c2560 = ((2560 : ℝ) : EReal) := by
  simp [c2560, Ideal.ofBits, Ideal.ieee]
  rw [← EReal.coe_mul]
  norm_num
theorem c128_eq : c128 = ((128 : ℝ) : EReal) := by
  simp [c128, Ideal.ofBits, Ideal.ieee]
  rw [← EReal.coe_mul]
  norm_num
theorem eps_pos : 0 < eps := by
  have : eps = (((8796093 : ℝ) * (2 : ℝ) ^ (-43 : Int) : ℝ) : EReal) := by
    simp [eps, Ideal.ofBits, Ideal.ieee]
  rw [this]
  exact_mod_cast (by positivity : (0 : ℝ) < 8796093 * (2 : ℝ) ^ (-43 : Int))

/-- The largest absolute value of a row. -/
def amax {n : ℕ} (v : Fin n → EReal) : EReal :=
  Finset.univ.fold max start fun j => FloatOps.absf (F := Ideal) (φ := .f32) (v j)

/-- The quantiser's scale from the largest absolute value. -/
def scaleOf (a : EReal) : EReal := if a = 0 then 1 else Ideal.div a c448

/-- A row's scale. -/
def qscale {n : ℕ} (v : Fin n → EReal) : EReal := scaleOf (amax v)

/-- One element's code at a scale. -/
def code (s x : EReal) : EReal := min c448 (max n448 (Ideal.div x s))

/-- A row's codes. -/
def codes {n : ℕ} (v : Fin n → EReal) (j : Fin n) : EReal := code (qscale v) (v j)

/-- A quantised row times a weight matrix, scaled by the row's scale and each column's. -/
def lin {n k : ℕ} (v : Fin n → EReal) (w : Fin n → Fin k → EReal) (ws : Fin k → EReal) (j : Fin k) : EReal :=
  (∑ x, codes v x * w x j) * qscale v * ws j

/-- The root mean square of a row, its length `d` given as the constant the programs divide by. -/
def rms {n : ℕ} (d : EReal) (v : Fin n → EReal) : EReal := Ideal.sqrt (Ideal.div (∑ x, v x * v x) d + eps)

/-- The modulated norm of a row. -/
def modn (v sh gn : Fin 2560 → EReal) (j : Fin 2560) : EReal := Ideal.div (v j) (rms c2560 v) * (1 + gn j) + sh j

/-- A token after a gated residual: of attention through its output projection, and of the hidden row through its own. -/
def yRow {n : ℕ} (x : Fin 2560 → EReal) (a : Fin n → EReal) (g : Fin 2560 → EReal) (wo : Fin n → Fin 2560 → EReal)
    (so : Fin 2560 → EReal) (j : Fin 2560) : EReal := x j + g j * lin a wo so j

/-- The SwiGLU hidden row. -/
def hidRow (u : Fin 2560 → EReal) (w1 : Fin 2560 → Fin 1728 → EReal) (s1 : Fin 1728 → EReal)
    (w3 : Fin 2560 → Fin 1728 → EReal) (s3 : Fin 1728 → EReal) (c : Fin 1728) : EReal :=
  lin u w1 s1 c * Ideal.logistic (lin u w1 s1 c) * lin u w3 s3 c

/-! ## The laws -/

/-- The scale is never zero. -/
theorem scaleOf_ne_zero (a : EReal) : scaleOf a ≠ 0 := by
  unfold scaleOf
  split
  · exact one_ne_zero
  · rename_i h
    have hc : c448 ≠ 0 := by rw [c448_eq]; exact_mod_cast (by norm_num : (448 : ℝ) ≠ 0)
    have hi : c448⁻¹ ≠ 0 := by
      rw [c448_eq, ← EReal.coe_inv]; exact_mod_cast (by norm_num : (448 : ℝ)⁻¹ ≠ 0)
    rw [Ideal.div, if_neg hc]
    exact mul_ne_zero h hi

/-- Times the reciprocal is the quotient, off zero. -/
theorem mul_recip (x s : EReal) (h : s ≠ 0) : x * Ideal.div 1 s = Ideal.div x s := by
  rw [Ideal.div, Ideal.div, if_neg h, if_neg h, one_mul]

/-- A square is not negative. -/
theorem sq_nonneg' (x : EReal) : 0 ≤ x * x := by
  rcases le_total 0 x with h | h
  · exact mul_nonneg h h
  · have := mul_nonneg (EReal.neg_nonneg.2 h) (EReal.neg_nonneg.2 h)
    rwa [neg_mul_neg] at this

/-- The root of something positive is not zero. -/
theorem sqrt_ne_zero {x : EReal} (h : 0 < x) : Ideal.sqrt x ≠ 0 := by
  induction x using EReal.rec with
  | bot => exact absurd h (by simp)
  | top => simp
  | coe r =>
    have hr : 0 < r := by exact_mod_cast h
    rw [Ideal.sqrt_coe, if_neg (not_lt.2 hr.le)]
    exact_mod_cast (Real.sqrt_pos.2 hr).ne'

/-- The root mean square is never zero: the mean of squares is not negative and eps is positive. -/
theorem rms_ne_zero {n : ℕ} (d : EReal) (hd : d ≠ 0) (hd' : 0 ≤ d⁻¹) (v : Fin n → EReal) : rms d v ≠ 0 := by
  refine sqrt_ne_zero ?_
  have h0 : 0 ≤ Ideal.div (∑ x, v x * v x) d := by
    rw [Ideal.div, if_neg hd]
    exact mul_nonneg (Finset.sum_nonneg fun x _ => sq_nonneg' (v x)) hd'
  calc (0 : EReal) < eps := eps_pos
    _ = 0 + eps := (zero_add _).symm
    _ ≤ _ := add_le_add_left h0 _

theorem rms2560_ne_zero (v : Fin 2560 → EReal) : rms c2560 v ≠ 0 :=
  rms_ne_zero _ (by rw [c2560_eq]; exact_mod_cast (by norm_num : (2560 : ℝ) ≠ 0))
    (by rw [c2560_eq, ← EReal.coe_inv]; exact_mod_cast (by norm_num : (0 : ℝ) ≤ (2560 : ℝ)⁻¹)) v

theorem rms128_ne_zero (v : Fin 128 → EReal) : rms c128 v ≠ 0 :=
  rms_ne_zero _ (by rw [c128_eq]; exact_mod_cast (by norm_num : (128 : ℝ) ≠ 0))
    (by rw [c128_eq, ← EReal.coe_inv]; exact_mod_cast (by norm_num : (0 : ℝ) ≤ (128 : ℝ)⁻¹)) v

/-- The kernels' code, a product with the scale's reciprocal, is the reference's. -/
theorem code_recip (a x : EReal) :
    min c448 (max n448 (x * Ideal.div 1 (scaleOf a))) = code (scaleOf a) x := by
  rw [mul_recip _ _ (scaleOf_ne_zero a), code]

/-- A largest absolute value is below `c` exactly when the start and each absolute value are. -/
theorem amax_le_iff {n : ℕ} (v : Fin n → EReal) (c : EReal) :
    amax v ≤ c ↔ start ≤ c ∧ ∀ j, FloatOps.absf (F := Ideal) (φ := .f32) (v j) ≤ c := by
  unfold amax
  rw [Finset.fold_max_le]
  simp

/-- The largest absolute value of a row of five slices of 128. -/
theorem amax_five (v : Fin 640 → EReal) (s : Fin 5 → Fin 128 → EReal)
    (h : ∀ (p : Fin 5) (l : Fin 128), s p l = v ⟨p * 128 + l, by omega⟩) :
    max (max (max (max (amax (s 0)) (amax (s 1))) (amax (s 2))) (amax (s 3))) (amax (s 4)) = amax v := by
  refine eq_of_forall_ge_iff fun c => ?_
  simp only [max_le_iff, amax_le_iff]
  constructor
  · rintro ⟨⟨⟨⟨⟨h0, a0⟩, -, a1⟩, -, a2⟩, -, a3⟩, -, a4⟩
    refine ⟨h0, fun j => ?_⟩
    have hj : v j = s ⟨j / 128, by omega⟩ ⟨j % 128, by omega⟩ := by
      rw [h]; congr 1; ext; simp only; omega
    rw [hj]
    have : ∀ (p : Fin 5) (l : Fin 128), FloatOps.absf (F := Ideal) (φ := .f32) (s p l) ≤ c := by
      intro p l
      fin_cases p
      exacts [a0 l, a1 l, a2 l, a3 l, a4 l]
    exact this _ _
  · rintro ⟨h0, a⟩
    refine ⟨⟨⟨⟨⟨h0, ?_⟩, h0, ?_⟩, h0, ?_⟩, h0, ?_⟩, h0, ?_⟩ <;> exact fun l => by rw [h]; exact a _

/-- The largest absolute value of a row of three slices of 576. -/
theorem amax_three (v : Fin 1728 → EReal) (s : Fin 3 → Fin 576 → EReal)
    (h : ∀ (p : Fin 3) (l : Fin 576), s p l = v ⟨p * 576 + l, by omega⟩) :
    max (max (amax (s 0)) (amax (s 1))) (amax (s 2)) = amax v := by
  refine eq_of_forall_ge_iff fun c => ?_
  simp only [max_le_iff, amax_le_iff]
  constructor
  · rintro ⟨⟨⟨h0, a0⟩, -, a1⟩, -, a2⟩
    refine ⟨h0, fun j => ?_⟩
    have hj : v j = s ⟨j / 576, by omega⟩ ⟨j % 576, by omega⟩ := by
      rw [h]; congr 1; ext; simp only; omega
    rw [hj]
    have : ∀ (p : Fin 3) (l : Fin 576), FloatOps.absf (F := Ideal) (φ := .f32) (s p l) ≤ c := by
      intro p l
      fin_cases p
      exacts [a0 l, a1 l, a2 l]
    exact this _ _
  · rintro ⟨h0, a⟩
    refine ⟨⟨⟨h0, ?_⟩, h0, ?_⟩, h0, ?_⟩ <;> exact fun l => by rw [h]; exact a _

/-- The quantiser's scale as the programs write it on vectors of any shape. -/
theorem select_scale {s : Shape} (v : FVec Ideal s .f32) :
    select (cmpf .oeq v (broadcast s (Scalar.ofBits .f32 0x00000000#32))) (broadcast s (Scalar.ofBits .f32 0x3F800000#32))
      (divf v (broadcast s (Scalar.ofBits .f32 0x43E00000#32))) = fun i => scaleOf (v i) := by
  funext i
  unfold scaleOf
  pointwise

end Cert.Spec

end
-- ==== Proof.MlpVidRefValue.lean ====
/-
  What the reference of the video layer's second half computes, one token at a time: each value its body names, read at a
  batch and a token, is the layer's mathematics (Spec) on that token's row.
-/
module

public import proofs.«01_k».proof.Proof.Spec
public import proofs.«01_k».proof.Proof.Gen.MlpVidRefIdeal.Skeleton

@[expose] public section

set_option maxRecDepth 16384

noncomputable section

namespace Cert.MlpVidRefIdeal.Rows

open Idealize.ShloMosaic Cert.Spec Cert.MlpVidRefIdeal Cert.MlpVidRefIdeal.Gen

variable (x0 : Vec Ideal S2x12240x2560 .bf16) (x1 : Vec Ideal S2x12240x640 .f32) (x2 : Vec Ideal S2x6x2560 .f32)
  (x3 : Vec Ideal S640x2560 .fp8e4m3) (x4 : Vec Ideal S2560 .f32) (x5 : Vec Ideal S2560x1728 .fp8e4m3)
  (x6 : Vec Ideal S1728 .f32) (x7 : Vec Ideal S2560x1728 .fp8e4m3) (x8 : Vec Ideal S1728 .f32)
  (x9 : Vec Ideal S1728x2560 .fp8e4m3) (x10 : Vec Ideal S2560 .f32)

/-- The token's rows: attention, after attention, the modulated norm, the hidden row. -/
def aR (b : Fin 2) (r : Fin 12240) (k : Fin 640) : EReal := x1 (ix3 b r k)
def yR (b : Fin 2) (r : Fin 12240) : Fin 2560 → EReal :=
  yRow (fun j => x0 (ix3 b r j)) (aR x1 b r) (fun j => x2 (ix3 b 2 j)) (fun k j => x3 (ix2 k j)) (fun j => x4 (ix1 j))
def uR (b : Fin 2) (r : Fin 12240) : Fin 2560 → EReal :=
  modn (yR x0 x1 x2 x3 x4 b r) (fun j => x2 (ix3 b 3 j)) (fun j => x2 (ix3 b 4 j))
def hR (b : Fin 2) (r : Fin 12240) : Fin 1728 → EReal :=
  hidRow (uR x0 x1 x2 x3 x4 b r) (fun k j => x5 (ix2 k j)) (fun j => x6 (ix1 j)) (fun k j => x7 (ix2 k j)) (fun j => x8 (ix1 j))
def zR (b : Fin 2) (r : Fin 12240) : Fin 2560 → EReal :=
  yRow (yR x0 x1 x2 x3 x4 b r) (hR x0 x1 x2 x3 x4 x5 x6 x7 x8 b r) (fun j => x2 (ix3 b 5 j)) (fun k j => x9 (ix2 k j)) (fun j => x10 (ix1 j))

/-! The maxima of absolute values, at each of the three row lengths. -/

theorem max640 (v : FVec Ideal S2x12240x640 .f32) (b : Fin 2) (r : Fin 12240) :
    multiReduction (F := Ideal) .maximumf [2] S2x12240 (absf v) 0xFF800000#32 reduces_S2x12240x640_S2x12240 (.inl rfl) rfl (ix2 b r)
      = amax fun k => v (ix3 b r k) := by
  unfold amax
  pointwise

theorem max2560 (v : FVec Ideal S2x12240x2560 .f32) (b : Fin 2) (r : Fin 12240) :
    multiReduction (F := Ideal) .maximumf [2] S2x12240 (absf v) 0xFF800000#32 reduces_S2x12240x2560_S2x12240 (.inl rfl) rfl (ix2 b r)
      = amax fun k => v (ix3 b r k) := by
  unfold amax
  pointwise

theorem max1728 (v : FVec Ideal S2x12240x1728 .f32) (b : Fin 2) (r : Fin 12240) :
    multiReduction (F := Ideal) .maximumf [2] S2x12240 (absf v) 0xFF800000#32 reduces_S2x12240x1728_S2x12240 (.inl rfl) rfl (ix2 b r)
      = amax fun k => v (ix3 b r k) := by
  unfold amax
  pointwise

/-! Attention's quantiser. -/

theorem aScale (b : Fin 2) (r : Fin 12240) : k0_pay7 x1 (ix2 b r) = qscale (aR x1 b r) := by
  have h5 : k0_pay5 x1 = x1 := shapeCast_id _ _
  unfold k0_pay7
  rw [h5, select_scale]
  exact congrArg scaleOf (max640 x1 b r)

theorem aCode_pt (s : FVec Ideal S2x12240 .f32) (hs : k0_pay7 x1 = s) (b : Fin 2) (r : Fin 12240) (k : Fin 640) :
    k0_pay8 x1 (ix3 b r k) = code (s (ix2 b r)) (x1 (ix3 b r k)) := by
  have h5 : k0_pay5 x1 = x1 := shapeCast_id _ _
  unfold k0_pay8 code
  rw [h5, hs]
  pointwise

theorem aCode (b : Fin 2) (r : Fin 12240) (k : Fin 640) : k0_pay8 x1 (ix3 b r k) = codes (aR x1 b r) k := by
  rw [aCode_pt x1 _ rfl, aScale, codes, aR]

/-! The gated residual after attention, and its modulated norm. -/

theorem y_pt (s : FVec Ideal S2x12240 .f32) (c : FVec Ideal S2x12240x640 .fp8e4m3) (b : Fin 2) (r : Fin 12240) (j : Fin 2560) :
    k0_pay12 s c (k0_pay10 x0) (k0_pay11 x2) x3 x4 (ix3 b r j)
      = x0 (ix3 b r j) + x2 (ix3 b 2 j) * ((∑ k, c (ix3 b r k) * x3 (ix2 k j)) * s (ix2 b r) * x4 (ix1 j)) := by
  pointwise [k0_pay12, k0_pay10, k0_pay11]

/-- The values after attention, as the body names them. -/
abbrev yV : FVec Ideal S2x12240x2560 .f32 := k0_pay12 (k0_pay7 x1) (k0_pay8 x1) (k0_pay10 x0) (k0_pay11 x2) x3 x4
abbrev uV : FVec Ideal S2x12240x2560 .f32 := k0_pay13 x2 (k0_pay7 x1) (k0_pay8 x1) (k0_pay10 x0) (k0_pay11 x2) x3 x4

theorem y_at (b : Fin 2) (r : Fin 12240) (j : Fin 2560) : yV x0 x1 x2 x3 x4 (ix3 b r j) = yR x0 x1 x2 x3 x4 b r j := by
  rw [yV, y_pt, aScale, yR, yRow, lin]
  simp only [aCode]

theorem u_pt (s : FVec Ideal S2x12240 .f32) (c : FVec Ideal S2x12240x640 .fp8e4m3) (v25 : FVec Ideal S2x12240x2560 .f32)
    (v28 : FVec Ideal S2x1x2560 .f32) (y : FVec Ideal S2x12240x2560 .f32) (hy : k0_pay12 s c v25 v28 x3 x4 = y)
    (b : Fin 2) (r : Fin 12240) (j : Fin 2560) :
    k0_pay13 x2 s c v25 v28 x3 x4 (ix3 b r j)
      = modn (fun j => y (ix3 b r j)) (fun j => x2 (ix3 b 3 j)) (fun j => x2 (ix3 b 4 j)) j := by
  unfold k0_pay13 modn rms
  rw [hy]
  pointwise

theorem u_at (b : Fin 2) (r : Fin 12240) (j : Fin 2560) : uV x0 x1 x2 x3 x4 (ix3 b r j) = uR x0 x1 x2 x3 x4 b r j := by
  rw [uV, u_pt _ _ _ _ _ _ _ _ rfl, uR]
  simp only [y_at]

theorem uScale_pt (s : FVec Ideal S2x12240 .f32) (c : FVec Ideal S2x12240x640 .fp8e4m3) (v25 : FVec Ideal S2x12240x2560 .f32)
    (v28 : FVec Ideal S2x1x2560 .f32) (u : FVec Ideal S2x12240x2560 .f32) (hu : k0_pay13 x2 s c v25 v28 x3 x4 = u)
    (b : Fin 2) (r : Fin 12240) : k0_pay14 x2 s c v25 v28 x3 x4 (ix2 b r) = qscale fun k => u (ix3 b r k) := by
  unfold k0_pay14
  rw [hu, select_scale]
  exact congrArg scaleOf (max2560 u b r)

theorem uCode_pt (s : FVec Ideal S2x12240 .f32) (c : FVec Ideal S2x12240x640 .fp8e4m3) (v25 : FVec Ideal S2x12240x2560 .f32)
    (v28 : FVec Ideal S2x1x2560 .f32) (u : FVec Ideal S2x12240x2560 .f32) (hu : k0_pay13 x2 s c v25 v28 x3 x4 = u)
    (us : FVec Ideal S2x12240 .f32) (hs : k0_pay14 x2 s c v25 v28 x3 x4 = us)
    (b : Fin 2) (r : Fin 12240) (j : Fin 2560) :
    k0_pay15 x2 s c v25 v28 x3 x4 (ix3 b r j) = code (us (ix2 b r)) (u (ix3 b r j)) := by
  unfold k0_pay15 code
  rw [hu, hs]
  pointwise

abbrev usV : FVec Ideal S2x12240 .f32 := k0_pay14 x2 (k0_pay7 x1) (k0_pay8 x1) (k0_pay10 x0) (k0_pay11 x2) x3 x4
abbrev ucV : FVec Ideal S2x12240x2560 .fp8e4m3 := k0_pay15 x2 (k0_pay7 x1) (k0_pay8 x1) (k0_pay10 x0) (k0_pay11 x2) x3 x4

theorem uScale (b : Fin 2) (r : Fin 12240) : usV x0 x1 x2 x3 x4 (ix2 b r) = qscale (uR x0 x1 x2 x3 x4 b r) := by
  rw [usV, uScale_pt _ _ _ _ _ _ _ _ rfl]
  simp only [u_at]

theorem uCode (b : Fin 2) (r : Fin 12240) (j : Fin 2560) : ucV x0 x1 x2 x3 x4 (ix3 b r j) = codes (uR x0 x1 x2 x3 x4 b r) j := by
  rw [ucV, uCode_pt _ _ _ _ _ _ _ (uV x0 x1 x2 x3 x4) rfl (usV x0 x1 x2 x3 x4) rfl, u_at, uScale, codes]

/-! The hidden row. -/

theorem h_pt (s : FVec Ideal S2x12240 .f32) (c : FVec Ideal S2x12240x2560 .fp8e4m3) (b : Fin 2) (r : Fin 12240) (j : Fin 1728) :
    k0_pay17 s c x5 x6 x7 x8 (ix3 b r j)
      = ((∑ k, c (ix3 b r k) * x5 (ix2 k j)) * s (ix2 b r) * x6 (ix1 j))
        * Ideal.logistic ((∑ k, c (ix3 b r k) * x5 (ix2 k j)) * s (ix2 b r) * x6 (ix1 j))
        * ((∑ k, c (ix3 b r k) * x7 (ix2 k j)) * s (ix2 b r) * x8 (ix1 j)) := by
  pointwise [k0_pay17]

abbrev hV : FVec Ideal S2x12240x1728 .f32 := k0_pay17 (usV x0 x1 x2 x3 x4) (ucV x0 x1 x2 x3 x4) x5 x6 x7 x8
abbrev hsV : FVec Ideal S2x12240 .f32 := k0_pay18 (usV x0 x1 x2 x3 x4) (ucV x0 x1 x2 x3 x4) x5 x6 x7 x8
abbrev hmV : FVec Ideal S2x12240x1728 .f32 := k0_pay19 (usV x0 x1 x2 x3 x4) (ucV x0 x1 x2 x3 x4) x5 x6 x7 x8

theorem h_at (b : Fin 2) (r : Fin 12240) (j : Fin 1728) :
    hV x0 x1 x2 x3 x4 x5 x6 x7 x8 (ix3 b r j) = hR x0 x1 x2 x3 x4 x5 x6 x7 x8 b r j := by
  rw [hV, h_pt, uScale, hR, hidRow, lin, lin]
  simp only [uCode]

theorem hScale_pt (s : FVec Ideal S2x12240 .f32) (c : FVec Ideal S2x12240x2560 .fp8e4m3) (h : FVec Ideal S2x12240x1728 .f32)
    (hh : k0_pay17 s c x5 x6 x7 x8 = h) (b : Fin 2) (r : Fin 12240) :
    k0_pay18 s c x5 x6 x7 x8 (ix2 b r) = qscale fun k => h (ix3 b r k) := by
  unfold k0_pay18
  rw [hh, select_scale]
  exact congrArg scaleOf (max1728 h b r)

theorem hScale (b : Fin 2) (r : Fin 12240) :
    hsV x0 x1 x2 x3 x4 x5 x6 x7 x8 (ix2 b r) = qscale (hR x0 x1 x2 x3 x4 x5 x6 x7 x8 b r) := by
  rw [hsV, hScale_pt _ _ _ _ _ _ _ rfl]
  simp only [h_at]

theorem hCode_pt (s : FVec Ideal S2x12240 .f32) (c : FVec Ideal S2x12240x2560 .fp8e4m3) (h : FVec Ideal S2x12240x1728 .f32)
    (hh : k0_pay17 s c x5 x6 x7 x8 = h) (hs : FVec Ideal S2x12240 .f32) (hhs : k0_pay18 s c x5 x6 x7 x8 = hs)
    (b : Fin 2) (r : Fin 12240) (j : Fin 1728) :
    k0_pay1 (k0_pay19 s c x5 x6 x7 x8) (k0_pay20 (F := Ideal)) (ix3 b r j) = code (hs (ix2 b r)) (h (ix3 b r j)) := by
  unfold k0_pay1 k0_pay19 k0_pay20 code
  rw [hh, hhs]
  pointwise

theorem hCode (b : Fin 2) (r : Fin 12240) (j : Fin 1728) :
    k0_pay1 (hmV x0 x1 x2 x3 x4 x5 x6 x7 x8) (k0_pay20 (F := Ideal)) (ix3 b r j) = codes (hR x0 x1 x2 x3 x4 x5 x6 x7 x8 b r) j := by
  rw [hmV, hCode_pt _ _ _ _ _ _ (hV x0 x1 x2 x3 x4 x5 x6 x7 x8) rfl (hsV x0 x1 x2 x3 x4 x5 x6 x7 x8) rfl, h_at, hScale, codes]

/-! The stored values. -/

theorem hT_pt (m n : FVec Ideal S2x12240x1728 .f32) (b : Fin 2) (r : Fin 12240) (j : Fin 1728) :
    k0_pay2 m n (ix3 b j r) = k0_pay1 m n (ix3 b r j) := by
  unfold k0_pay2
  generalize k0_pay1 m n = c
  pointwise

theorem aScale_st (b : Fin 2) (r : Fin 12240) : k0_pay9 x1 (ix3 b 0 r) = qscale (aR x1 b r) := by
  rw [← aScale]
  unfold k0_pay9
  generalize k0_pay7 x1 = s
  pointwise

theorem uScale_st (s : FVec Ideal S2x12240 .f32) (b : Fin 2) (r : Fin 12240) : k0_pay16 s (ix3 b 0 r) = s (ix2 b r) := by
  pointwise [k0_pay16]

theorem hScale_st (s : FVec Ideal S2x12240 .f32) (b : Fin 2) (r : Fin 12240) : k0_pay3 s (ix3 b 0 r) = s (ix2 b r) := by
  pointwise [k0_pay3]

theorem va_st (b : Fin 2) (r : Fin 12240) (k : Fin 640) : k0_pay6 x1 (ix3 b r k) = aR x1 b r k := by
  have h5 : k0_pay5 x1 = x1 := shapeCast_id _ _
  unfold k0_pay6 aR
  rw [h5]
  pointwise

theorem z_pt (y : FVec Ideal S2x12240x2560 .f32) (s : FVec Ideal S2x12240 .f32) (m n : FVec Ideal S2x12240x1728 .f32)
    (c : FVec Ideal S2x12240x1728 .fp8e4m3) (hc : k0_pay1 m n = c) (b : Fin 2) (r : Fin 12240) (j : Fin 2560) :
    k0_pay4 x2 y s m n x9 x10 (ix3 b r j)
      = y (ix3 b r j) + x2 (ix3 b 5 j) * ((∑ k, c (ix3 b r k) * x9 (ix2 k j)) * s (ix2 b r) * x10 (ix1 j)) := by
  unfold k0_pay4
  rw [hc]
  pointwise

theorem z_at (b : Fin 2) (r : Fin 12240) (j : Fin 2560) :
    k0_pay4 x2 (yV x0 x1 x2 x3 x4) (hsV x0 x1 x2 x3 x4 x5 x6 x7 x8) (hmV x0 x1 x2 x3 x4 x5 x6 x7 x8) (k0_pay20 (F := Ideal)) x9 x10 (ix3 b r j)
      = zR x0 x1 x2 x3 x4 x5 x6 x7 x8 x9 x10 b r j := by
  rw [z_pt _ _ _ _ _ _ _ _ rfl, y_at, hScale, zR, yRow, lin]
  simp only [hCode]

end Cert.MlpVidRefIdeal.Rows

end
-- ==== Proof.MlpVidLayer.lean ====
/-
  The video layer's second half as functions of the arguments: the eight arrays that both the kernel and the reference end
  with, each element the layer's mathematics (Spec) on its token's row. Attention is given per head; a token's attention row
  is its heads side by side.
-/
module

public import proofs.«01_k».proof.Proof.MlpVidRefValue

@[expose] public section

noncomputable section

namespace Cert.MlpVidLayer

open Idealize.ShloMosaic Cert.Spec Cert.MlpVidRefIdeal Cert.MlpVidRefIdeal.Rows

variable (x0 : Vec Ideal S2x12240x2560 .bf16) (x1 : Vec Ideal S2x5x12240x128 .f32) (x2 : Vec Ideal S2x6x2560 .f32)
  (x3 : Vec Ideal S640x2560 .fp8e4m3) (x4 : Vec Ideal S2560 .f32) (x5 : Vec Ideal S2560x1728 .fp8e4m3)
  (x6 : Vec Ideal S1728 .f32) (x7 : Vec Ideal S2560x1728 .fp8e4m3) (x8 : Vec Ideal S1728 .f32)
  (x9 : Vec Ideal S1728x2560 .fp8e4m3) (x10 : Vec Ideal S2560 .f32)

/-- Attention with each token's heads side by side. -/
def attn : Vec Ideal S2x12240x640 .f32 := fun i =>
  x1 (ix4 (i 0) (⟨(i 2).val / 128, by have := (i 2).isLt; change (i 2).val < 640 at this; omega⟩ : Fin 5) (i 1)
    (⟨(i 2).val % 128, Nat.mod_lt _ (by decide)⟩ : Fin 128))

def zArr : Vec Ideal S2x12240x2560 .bf16 := fun i => zR x0 (attn x1) x2 x3 x4 x5 x6 x7 x8 x9 x10 (i 0) (i 1) (i 2)
def vaArr : Vec Ideal S2x12240x640 .bf16 := fun i => aR (attn x1) (i 0) (i 1) (i 2)
def acArr : Vec Ideal S2x12240x640 .fp8e4m3 := fun i => codes (aR (attn x1) (i 0) (i 1)) (i 2)
def asArr : Vec Ideal S2x1x12240 .f32 := fun i => qscale (aR (attn x1) (i 0) (i 2))
def ucArr : Vec Ideal S2x12240x2560 .fp8e4m3 := fun i => codes (uR x0 (attn x1) x2 x3 x4 (i 0) (i 1)) (i 2)
def usArr : Vec Ideal S2x1x12240 .f32 := fun i => qscale (uR x0 (attn x1) x2 x3 x4 (i 0) (i 2))
def hcArr : Vec Ideal S2x1728x12240 .fp8e4m3 := fun i => codes (hR x0 (attn x1) x2 x3 x4 x5 x6 x7 x8 (i 0) (i 2)) (i 1)
def hsArr : Vec Ideal S2x1x12240 .f32 := fun i => qscale (hR x0 (attn x1) x2 x3 x4 x5 x6 x7 x8 (i 0) (i 2))

end Cert.MlpVidLayer

end
-- ==== Proof.MlpVidIdealRows.lean ====
/-
  What the video feed-forward kernel's body leaves in its outputs' buffers, one row of the 256 at a time: each stored value is
  the layer's mathematics (Spec) on that row of the blocks. The scratch rows the body fills by slices and reads back whole
  are put together here as well.
-/
module

public import proofs.«01_k».proof.Proof.Spec
public import proofs.«01_k».proof.Proof.MlpVidIdealFrame
public import Idealize.ShloMosaic.Lib.Pipeline.ReadBack

@[expose] public section

set_option maxRecDepth 16384

noncomputable section

namespace Cert.MlpVidIdeal.Rows

open Idealize.ShloMosaic Cert.Spec Cert.MlpVidIdeal Cert.MlpVidIdeal.Gen Cert.MlpVidIdeal.Body

variable (x0 : Vec Ideal S1x256x2560 .bf16) (x1 : Vec Ideal S1x5x256x128 .f32) (x2 : Vec Ideal S1x6x2560 .f32)
  (x3 : Vec Ideal S640x2560 .fp8e4m3) (x4 : Vec Ideal S1x2560 .f32) (x5 : Vec Ideal S1728x2560 .fp8e4m3)
  (x6 : Vec Ideal S1728x1 .f32) (x7 : Vec Ideal S1728x2560 .fp8e4m3) (x8 : Vec Ideal S1728x1 .f32)
  (x9 : Vec Ideal S1728x2560 .fp8e4m3) (x10 : Vec Ideal S1x2560 .f32)

/-! The row's mathematics over the blocks. -/

def aR (r : Fin 256) (k : Fin 640) : EReal := x1 (ix4 0 ⟨k / 128, by omega⟩ r ⟨k % 128, by omega⟩)
def yR (r : Fin 256) : Fin 2560 → EReal :=
  yRow (fun j => x0 (ix3 0 r j)) (aR x1 r) (fun j => x2 (ix3 0 2 j)) (fun k j => x3 (ix2 k j)) (fun j => x4 (ix2 0 j))
def uR (r : Fin 256) : Fin 2560 → EReal :=
  modn (yR x0 x1 x2 x3 x4 r) (fun j => x2 (ix3 0 3 j)) (fun j => x2 (ix3 0 4 j))
def hR (r : Fin 256) : Fin 1728 → EReal :=
  hidRow (uR x0 x1 x2 x3 x4 r) (fun k j => x5 (ix2 j k)) (fun j => x6 (ix2 j 0)) (fun k j => x7 (ix2 j k)) (fun j => x8 (ix2 j 0))
def zR (r : Fin 256) : Fin 2560 → EReal :=
  yRow (yR x0 x1 x2 x3 x4 r) (hR x0 x1 x2 x3 x4 x5 x6 x7 x8 r) (fun j => x2 (ix3 0 5 j)) (fun k j => x9 (ix2 k j)) (fun j => x10 (ix2 0 j))

/-! The slices the body loads. -/

def hd0 : FVec Ideal S1x1x256x128 .f32 := View.ld x1 (Rect.unit ![0, 0, 0, 0] ![1, 1, 256, 128] inb_S1x5x256x128_S1x1x256x128_0_0_0_0)
def hd1 : FVec Ideal S1x1x256x128 .f32 := View.ld x1 (Rect.unit ![0, 1, 0, 0] ![1, 1, 256, 128] inb_S1x5x256x128_S1x1x256x128_0_1_0_0)
def hd2 : FVec Ideal S1x1x256x128 .f32 := View.ld x1 (Rect.unit ![0, 2, 0, 0] ![1, 1, 256, 128] inb_S1x5x256x128_S1x1x256x128_0_2_0_0)
def hd3 : FVec Ideal S1x1x256x128 .f32 := View.ld x1 (Rect.unit ![0, 3, 0, 0] ![1, 1, 256, 128] inb_S1x5x256x128_S1x1x256x128_0_3_0_0)
def hd4 : FVec Ideal S1x1x256x128 .f32 := View.ld x1 (Rect.unit ![0, 4, 0, 0] ![1, 1, 256, 128] inb_S1x5x256x128_S1x1x256x128_0_4_0_0)
def md2 : FVec Ideal S1x1x2560 .f32 := View.ld x2 (Rect.unit ![0, 2, 0] ![1, 1, 2560] inb_S1x6x2560_S1x1x2560_0_2_0)
def md3 : FVec Ideal S1x1x2560 .f32 := View.ld x2 (Rect.unit ![0, 3, 0] ![1, 1, 2560] inb_S1x6x2560_S1x1x2560_0_3_0)
def md4 : FVec Ideal S1x1x2560 .f32 := View.ld x2 (Rect.unit ![0, 4, 0] ![1, 1, 2560] inb_S1x6x2560_S1x1x2560_0_4_0)
def md5 : FVec Ideal S1x1x2560 .f32 := View.ld x2 (Rect.unit ![0, 5, 0] ![1, 1, 2560] inb_S1x6x2560_S1x1x2560_0_5_0)
def wch0 (w : Vec Ideal S1728x2560 .fp8e4m3) : FVec Ideal S576x2560 .fp8e4m3 := View.ld w (Rect.unit ![0, 0] ![576, 2560] inb_S1728x2560_S576x2560_0_0)
def sch0 (s : Vec Ideal S1728x1 .f32) : FVec Ideal S576x1 .f32 := View.ld s (Rect.unit ![0, 0] ![576, 1] inb_S1728x1_S576x1_0_0)
def wch1 (w : Vec Ideal S1728x2560 .fp8e4m3) : FVec Ideal S576x2560 .fp8e4m3 := View.ld w (Rect.unit ![576, 0] ![576, 2560] inb_S1728x2560_S576x2560_576_0)
def sch1 (s : Vec Ideal S1728x1 .f32) : FVec Ideal S576x1 .f32 := View.ld s (Rect.unit ![576, 0] ![576, 1] inb_S1728x1_S576x1_576_0)
def wch2 (w : Vec Ideal S1728x2560 .fp8e4m3) : FVec Ideal S576x2560 .fp8e4m3 := View.ld w (Rect.unit ![1152, 0] ![576, 2560] inb_S1728x2560_S576x2560_1152_0)
def sch2 (s : Vec Ideal S1728x1 .f32) : FVec Ideal S576x1 .f32 := View.ld s (Rect.unit ![1152, 0] ![576, 1] inb_S1728x1_S576x1_1152_0)

theorem hd0_at (r : Fin 256) (l : Fin 128) : hd0 x1 (ix4 0 0 r l) = x1 (ix4 0 0 r l) :=
  View.ld_unit_apply_of _ _ _ _ _ _ fun a => by fin_cases a <;> simp
theorem hd1_at (r : Fin 256) (l : Fin 128) : hd1 x1 (ix4 0 0 r l) = x1 (ix4 0 1 r l) :=
  View.ld_unit_apply_of _ _ _ _ _ _ fun a => by fin_cases a <;> simp
theorem hd2_at (r : Fin 256) (l : Fin 128) : hd2 x1 (ix4 0 0 r l) = x1 (ix4 0 2 r l) :=
  View.ld_unit_apply_of _ _ _ _ _ _ fun a => by fin_cases a <;> simp
theorem hd3_at (r : Fin 256) (l : Fin 128) : hd3 x1 (ix4 0 0 r l) = x1 (ix4 0 3 r l) :=
  View.ld_unit_apply_of _ _ _ _ _ _ fun a => by fin_cases a <;> simp
theorem hd4_at (r : Fin 256) (l : Fin 128) : hd4 x1 (ix4 0 0 r l) = x1 (ix4 0 4 r l) :=
  View.ld_unit_apply_of _ _ _ _ _ _ fun a => by fin_cases a <;> simp
theorem md2_at (j : Fin 2560) : md2 x2 (ix3 0 0 j) = x2 (ix3 0 2 j) :=
  View.ld_unit_apply_of _ _ _ _ _ _ fun a => by fin_cases a <;> simp
theorem md3_at (j : Fin 2560) : md3 x2 (ix3 0 0 j) = x2 (ix3 0 3 j) :=
  View.ld_unit_apply_of _ _ _ _ _ _ fun a => by fin_cases a <;> simp
theorem md4_at (j : Fin 2560) : md4 x2 (ix3 0 0 j) = x2 (ix3 0 4 j) :=
  View.ld_unit_apply_of _ _ _ _ _ _ fun a => by fin_cases a <;> simp
theorem md5_at (j : Fin 2560) : md5 x2 (ix3 0 0 j) = x2 (ix3 0 5 j) :=
  View.ld_unit_apply_of _ _ _ _ _ _ fun a => by fin_cases a <;> simp
theorem wch0_at (w : Vec Ideal S1728x2560 .fp8e4m3) (l : Fin 576) (k : Fin 2560) : wch0 w (ix2 l k) = w (ix2 ⟨0 * 576 + l, by omega⟩ k) :=
  View.ld_unit_apply_of _ _ _ _ _ _ fun a => by fin_cases a <;> simp
theorem sch0_at (w : Vec Ideal S1728x1 .f32) (l : Fin 576) : sch0 w (ix2 l 0) = w (ix2 ⟨0 * 576 + l, by omega⟩ 0) :=
  View.ld_unit_apply_of _ _ _ _ _ _ fun a => by fin_cases a <;> simp
theorem wch1_at (w : Vec Ideal S1728x2560 .fp8e4m3) (l : Fin 576) (k : Fin 2560) : wch1 w (ix2 l k) = w (ix2 ⟨1 * 576 + l, by omega⟩ k) :=
  View.ld_unit_apply_of _ _ _ _ _ _ fun a => by fin_cases a <;> simp
theorem sch1_at (w : Vec Ideal S1728x1 .f32) (l : Fin 576) : sch1 w (ix2 l 0) = w (ix2 ⟨1 * 576 + l, by omega⟩ 0) :=
  View.ld_unit_apply_of _ _ _ _ _ _ fun a => by fin_cases a <;> simp
theorem wch2_at (w : Vec Ideal S1728x2560 .fp8e4m3) (l : Fin 576) (k : Fin 2560) : wch2 w (ix2 l k) = w (ix2 ⟨2 * 576 + l, by omega⟩ k) :=
  View.ld_unit_apply_of _ _ _ _ _ _ fun a => by fin_cases a <;> simp
theorem sch2_at (w : Vec Ideal S1728x1 .f32) (l : Fin 576) : sch2 w (ix2 l 0) = w (ix2 ⟨2 * 576 + l, by omega⟩ 0) :=
  View.ld_unit_apply_of _ _ _ _ _ _ fun a => by fin_cases a <;> simp

/-! Attention's quantiser. -/

theorem pay8_pt (h0 h1 : Vec Ideal S1x1x256x128 .f32) (r : Fin 256) :
    k0_pay8 h0 h1 (ix2 r 0) = max (amax fun l => h0 (ix4 0 0 r l)) (amax fun l => h1 (ix4 0 0 r l)) := by
  unfold k0_pay8 k0_pay2 k0_pay5 amax
  pointwise

theorem pay15_pt (m : FVec Ideal S256x1 .f32) (h2 h3 : Vec Ideal S1x1x256x128 .f32) (r : Fin 256) :
    k0_pay15 m (k0_pay9 h2) h3 (ix2 r 0)
      = max (max (m (ix2 r 0)) (amax fun l => h2 (ix4 0 0 r l))) (amax fun l => h3 (ix4 0 0 r l)) := by
  unfold k0_pay15 k0_pay9 k0_pay12 amax
  pointwise

theorem pay19_pt (m : FVec Ideal S256x1 .f32) (h4 : Vec Ideal S1x1x256x128 .f32) (r : Fin 256) :
    k0_pay19 m (k0_pay16 h4) (ix2 r 0) = scaleOf (max (m (ix2 r 0)) (amax fun l => h4 (ix4 0 0 r l))) := by
  unfold k0_pay19 k0_pay16
  rw [select_scale]
  refine congrArg scaleOf ?_
  unfold amax
  pointwise

/-- The largest absolute value over the first four heads, and the last head. -/
abbrev aM : FVec Ideal S256x1 .f32 := k0_pay15 (k0_pay8 (hd0 x1) (hd1 x1)) (k0_pay9 (hd2 x1)) (hd3 x1)
abbrev aL : FVec Ideal S256x128 .f32 := k0_pay16 (hd4 x1)

theorem aScale (r : Fin 256) : k0_pay19 (aM x1) (aL x1) (ix2 r 0) = qscale (aR x1 r) := by
  rw [aM, aL, pay19_pt, pay15_pt, pay8_pt, qscale]
  simp only [hd0_at, hd1_at, hd2_at, hd3_at, hd4_at]
  refine congrArg scaleOf (amax_five (aR x1 r) (fun p l => x1 (ix4 0 p r l)) fun p l => ?_)
  unfold aR
  congr 2 <;> (ext; simp only; omega)

theorem aR_of (h : Fin 5) (r r' : Fin 256) (l : Fin 128) (k : Fin 640) (hr : (r : ℕ) = r') (hk : (k : ℕ) = h * 128 + l) :
    x1 (ix4 0 h r' l) = aR x1 r k := by
  obtain rfl : r = r' := Fin.ext hr
  have e1 : (⟨k / 128, by omega⟩ : Fin 5) = h := Fin.ext (by simp only; omega)
  have e2 : (⟨k % 128, by omega⟩ : Fin 128) = l := Fin.ext (by simp only; omega)
  rw [aR, e1, e2]

/-- The scratch rows the five heads fill, read whole. -/
abbrev aPieces : List (View.Piece (Elt Ideal) S256x640 .f32) :=
  [⟨Rect.unit ![0, 512] ![256, 128] inb_S256x640_S256x128_0_512, k0_pay17 (F := Ideal) (hd4 x1)⟩,
   ⟨Rect.unit ![0, 384] ![256, 128] inb_S256x640_S256x128_0_384, k0_pay13 (F := Ideal) (hd3 x1)⟩,
   ⟨Rect.unit ![0, 256] ![256, 128] inb_S256x640_S256x128_0_256, k0_pay10 (F := Ideal) (k0_pay9 (F := Ideal) (hd2 x1))⟩,
   ⟨Rect.unit ![0, 128] ![256, 128] inb_S256x640_S256x128_0_128, k0_pay6 (F := Ideal) (hd1 x1)⟩,
   ⟨Rect.unit ![0, 0] ![256, 128] inb_S256x640_S256x128_0_0, k0_pay3 (F := Ideal) (hd0 x1)⟩]
abbrev aBox : Rect S256x640 := Rect.unit ![0, 0] ![256, 640] inb_S256x640_S256x640_0_0
abbrev aSc : FVec Ideal S256x640 .f32 := View.readCov (Val := Elt Ideal) (View.whole cc0_scratch0) (aPieces x1) aBox.toLoadRect

theorem st0_pt (h : Vec Ideal S1x1x256x128 .f32) (r : Fin 256) (l : Fin 128) : k0_pay3 h (ix2 r l) = h (ix4 0 0 r l) := by
  pointwise [k0_pay2, k0_pay3, k0_pay5, k0_pay6, k0_pay9, k0_pay10, k0_pay12, k0_pay13, k0_pay16, k0_pay17]
theorem st1_pt (h : Vec Ideal S1x1x256x128 .f32) (r : Fin 256) (l : Fin 128) : k0_pay6 h (ix2 r l) = h (ix4 0 0 r l) := by
  pointwise [k0_pay2, k0_pay3, k0_pay5, k0_pay6, k0_pay9, k0_pay10, k0_pay12, k0_pay13, k0_pay16, k0_pay17]
theorem st2_pt (h : Vec Ideal S1x1x256x128 .f32) (r : Fin 256) (l : Fin 128) : k0_pay10 (k0_pay9 h) (ix2 r l) = h (ix4 0 0 r l) := by
  pointwise [k0_pay2, k0_pay3, k0_pay5, k0_pay6, k0_pay9, k0_pay10, k0_pay12, k0_pay13, k0_pay16, k0_pay17]
theorem st3_pt (h : Vec Ideal S1x1x256x128 .f32) (r : Fin 256) (l : Fin 128) : k0_pay13 h (ix2 r l) = h (ix4 0 0 r l) := by
  pointwise [k0_pay2, k0_pay3, k0_pay5, k0_pay6, k0_pay9, k0_pay10, k0_pay12, k0_pay13, k0_pay16, k0_pay17]
theorem st4_pt (h : Vec Ideal S1x1x256x128 .f32) (r : Fin 256) (l : Fin 128) : k0_pay17 h (ix2 r l) = h (ix4 0 0 r l) := by
  pointwise [k0_pay2, k0_pay3, k0_pay5, k0_pay6, k0_pay9, k0_pay10, k0_pay12, k0_pay13, k0_pay16, k0_pay17]
theorem va0_pt (h : Vec Ideal S1x1x256x128 .f32) (r : Fin 256) (l : Fin 128) : k0_pay4 h (ix3 0 r l) = h (ix4 0 0 r l) := by
  pointwise [k0_pay2, k0_pay4, k0_pay5, k0_pay7, k0_pay9, k0_pay11, k0_pay12, k0_pay14, k0_pay16, k0_pay18]
theorem va1_pt (h : Vec Ideal S1x1x256x128 .f32) (r : Fin 256) (l : Fin 128) : k0_pay7 h (ix3 0 r l) = h (ix4 0 0 r l) := by
  pointwise [k0_pay2, k0_pay4, k0_pay5, k0_pay7, k0_pay9, k0_pay11, k0_pay12, k0_pay14, k0_pay16, k0_pay18]
theorem va2_pt (h : Vec Ideal S1x1x256x128 .f32) (r : Fin 256) (l : Fin 128) : k0_pay11 (k0_pay9 h) (ix3 0 r l) = h (ix4 0 0 r l) := by
  pointwise [k0_pay2, k0_pay4, k0_pay5, k0_pay7, k0_pay9, k0_pay11, k0_pay12, k0_pay14, k0_pay16, k0_pay18]
theorem va3_pt (h : Vec Ideal S1x1x256x128 .f32) (r : Fin 256) (l : Fin 128) : k0_pay14 h (ix3 0 r l) = h (ix4 0 0 r l) := by
  pointwise [k0_pay2, k0_pay4, k0_pay5, k0_pay7, k0_pay9, k0_pay11, k0_pay12, k0_pay14, k0_pay16, k0_pay18]
theorem va4_pt (h : Vec Ideal S1x1x256x128 .f32) (r : Fin 256) (l : Fin 128) : k0_pay18 h (ix3 0 r l) = h (ix4 0 0 r l) := by
  pointwise [k0_pay2, k0_pay4, k0_pay5, k0_pay7, k0_pay9, k0_pay11, k0_pay12, k0_pay14, k0_pay16, k0_pay18]

theorem aCanon (y : S256x640.Idx) : View.canon (aPieces x1) y = aR x1 (y 0) (y 1) := by
  unfold aPieces
  canon_tiles x h
  · exact (congrArg (k0_pay17 (F := Ideal) (hd4 x1)) (eq_ix2 (n0 := 256) (n1 := 128) x)).trans ((st4_pt _ _ _).trans ((hd4_at x1 _ _).trans
      (aR_of x1 4 (y 0) (x 0) (x 1) (y 1) h0 (by rw [h1]; rfl))))
  · exact (congrArg (k0_pay13 (F := Ideal) (hd3 x1)) (eq_ix2 (n0 := 256) (n1 := 128) x)).trans ((st3_pt _ _ _).trans ((hd3_at x1 _ _).trans
      (aR_of x1 3 (y 0) (x 0) (x 1) (y 1) h0 (by rw [h1]; rfl))))
  · exact (congrArg (k0_pay10 (F := Ideal) (k0_pay9 (F := Ideal) (hd2 x1))) (eq_ix2 (n0 := 256) (n1 := 128) x)).trans ((st2_pt _ _ _).trans ((hd2_at x1 _ _).trans
      (aR_of x1 2 (y 0) (x 0) (x 1) (y 1) h0 (by rw [h1]; rfl))))
  · exact (congrArg (k0_pay6 (F := Ideal) (hd1 x1)) (eq_ix2 (n0 := 256) (n1 := 128) x)).trans ((st1_pt _ _ _).trans ((hd1_at x1 _ _).trans
      (aR_of x1 1 (y 0) (x 0) (x 1) (y 1) h0 (by rw [h1]; rfl))))
  · exact (congrArg (k0_pay3 (F := Ideal) (hd0 x1)) (eq_ix2 (n0 := 256) (n1 := 128) x)).trans ((st0_pt _ _ _).trans ((hd0_at x1 _ _).trans
      (aR_of x1 0 (y 0) (x 0) (x 1) (y 1) h0 (by rw [h1]; simp))))

theorem aSc_at (r : Fin 256) (k : Fin 640) : aSc x1 (ix2 r k) = aR x1 r k := by
  rw [aSc, View.readCov_eq_canon']
  refine (aCanon x1 _).trans ?_
  congr 1 <;> (ext; simp)

theorem aCode_pt (m : FVec Ideal S256x1 .f32) (w : FVec Ideal S256x128 .f32) (v : Vec Ideal S256x640 .f32) (s : FVec Ideal S256x1 .f32)
    (hs : k0_pay19 m w = s) (r : Fin 256) (k : Fin 640) :
    k0_pay20 m w v (ix2 r k) = min c448 (max n448 (v (ix2 r k) * Ideal.div 1 (s (ix2 r 0)))) := by
  unfold k0_pay20
  rw [hs]
  pointwise

/-- Attention's codes. -/
abbrev aC : FVec Ideal S256x640 .fp8e4m3 := k0_pay20 (aM x1) (aL x1) (aSc x1)

theorem aCode (r : Fin 256) (k : Fin 640) : aC x1 (ix2 r k) = codes (aR x1 r) k := by
  rw [aC, aCode_pt _ _ _ _ rfl, aScale, aSc_at, qscale, code_recip, codes, qscale]

theorem aCode_st (m : FVec Ideal S256x1 .f32) (w : FVec Ideal S256x128 .f32) (v : Vec Ideal S256x640 .f32) (r : Fin 256) (k : Fin 640) :
    k0_pay21 m w v (ix3 0 r k) = k0_pay20 m w v (ix2 r k) := by
  unfold k0_pay21
  generalize k0_pay20 m w v = c
  pointwise

theorem aScale_st (m : FVec Ideal S256x1 .f32) (w : FVec Ideal S256x128 .f32) (r : Fin 256) :
    k0_pay22 m w (ix3 0 0 r) = k0_pay19 m w (ix2 r 0) := by
  unfold k0_pay22
  generalize k0_pay19 m w = c
  pointwise

end Cert.MlpVidIdeal.Rows

end
-- ==== Proof.MlpVidIdealRowsU.lean ====
/-
  What the video feed-forward kernel's body leaves in its outputs' buffers, one row of the 256 at a time: each stored value is
  the layer's mathematics (Spec) on that row of the blocks. The scratch rows the body fills by slices and reads back whole
  are put together here as well.
-/
module

public import proofs.«01_k».proof.Proof.MlpVidIdealRows
import proofs.«01_k».proof.Proof.Spec
public import proofs.«01_k».proof.Proof.MlpVidIdealFrame
public import Idealize.ShloMosaic.Lib.Pipeline.ReadBack

@[expose] public section

set_option maxRecDepth 16384

noncomputable section

namespace Cert.MlpVidIdeal.Rows

open Idealize.ShloMosaic Cert.Spec Cert.MlpVidIdeal Cert.MlpVidIdeal.Gen Cert.MlpVidIdeal.Body

variable (x0 : Vec Ideal S1x256x2560 .bf16) (x1 : Vec Ideal S1x5x256x128 .f32) (x2 : Vec Ideal S1x6x2560 .f32)
  (x3 : Vec Ideal S640x2560 .fp8e4m3) (x4 : Vec Ideal S1x2560 .f32) (x5 : Vec Ideal S1728x2560 .fp8e4m3)
  (x6 : Vec Ideal S1728x1 .f32) (x7 : Vec Ideal S1728x2560 .fp8e4m3) (x8 : Vec Ideal S1728x1 .f32)
  (x9 : Vec Ideal S1728x2560 .fp8e4m3) (x10 : Vec Ideal S1x2560 .f32)

/-! The gated residual after attention, and its modulated norm. -/

theorem lin0_pt (m : FVec Ideal S256x1 .f32) (w : FVec Ideal S256x128 .f32) (v : Vec Ideal S256x640 .f32) (x3 : Vec Ideal S640x2560 .fp8e4m3)
    (c : FVec Ideal S256x640 .fp8e4m3) (hc : k0_pay20 m w v = c) (s : FVec Ideal S256x1 .f32) (hs : k0_pay19 m w = s) (r : Fin 256) (j : Fin 2560) :
    k0_pay23 m w v x3 (ix2 r j) = (∑ k, c (ix2 r k) * x3 (ix2 k j)) * s (ix2 r 0) := by
  unfold k0_pay23
  rw [hc, hs]
  pointwise

abbrev l0 : FVec Ideal S256x2560 .f32 := k0_pay23 (aM x1) (aL x1) (aSc x1) x3

theorem l0_at (r : Fin 256) (j : Fin 2560) : l0 x1 x3 (ix2 r j) = (∑ k, codes (aR x1 r) k * x3 (ix2 k j)) * qscale (aR x1 r) := by
  rw [l0, lin0_pt _ _ _ _ (aC x1) rfl _ rfl, aScale]
  simp only [aCode]

theorem y_pt (l : FVec Ideal S256x2560 .f32) (g : Vec Ideal S1x1x2560 .f32) (r : Fin 256) (j : Fin 2560) :
    k0_pay25 l (k0_pay24 x4) x0 g (ix2 r j) = x0 (ix3 0 r j) + g (ix3 0 0 j) * (l (ix2 r j) * x4 (ix2 0 j)) := by
  pointwise [k0_pay25, k0_pay24]

abbrev yB : FVec Ideal S256x2560 .f32 := k0_pay25 (l0 x1 x3) (k0_pay24 x4) x0 (md2 x2)

theorem y_at (r : Fin 256) (j : Fin 2560) : yB x0 x1 x2 x3 x4 (ix2 r j) = yR x0 x1 x2 x3 x4 r j := by
  rw [yB, y_pt, l0_at, md2_at, yR, yRow, lin]

theorem u_pt (l e : FVec Ideal S256x2560 .f32) (g sh gn : Vec Ideal S1x1x2560 .f32) (y : FVec Ideal S256x2560 .f32)
    (hy : k0_pay25 l e x0 g = y) (r : Fin 256) (j : Fin 2560) :
    k0_pay27 l e x0 g sh gn (ix2 r j)
      = y (ix2 r j) * Ideal.div 1 (rms c2560 fun j => y (ix2 r j)) * (1 + gn (ix3 0 0 j)) + sh (ix3 0 0 j) := by
  unfold k0_pay27 rms
  rw [hy]
  pointwise

abbrev uB : FVec Ideal S256x2560 .f32 := k0_pay27 (l0 x1 x3) (k0_pay24 x4) x0 (md2 x2) (md3 x2) (md4 x2)

theorem u_at (r : Fin 256) (j : Fin 2560) : uB x0 x1 x2 x3 x4 (ix2 r j) = uR x0 x1 x2 x3 x4 r j := by
  rw [uB, u_pt _ _ _ _ _ _ _ rfl, mul_recip _ _ (rms2560_ne_zero _), md3_at, md4_at, uR, modn]
  simp only [y_at]

theorem uMax_pt (l e : FVec Ideal S256x2560 .f32) (g sh gn : Vec Ideal S1x1x2560 .f32) (u : FVec Ideal S256x2560 .f32)
    (hu : k0_pay27 l e x0 g sh gn = u) (r : Fin 256) :
    k0_pay28 l e x0 g sh gn (ix2 r 0) = amax fun j => u (ix2 r j) := by
  unfold k0_pay28 amax
  rw [hu]
  pointwise

abbrev uX : FVec Ideal S256x1 .f32 := k0_pay28 (l0 x1 x3) (k0_pay24 x4) x0 (md2 x2) (md3 x2) (md4 x2)

theorem uX_at (r : Fin 256) : uX x0 x1 x2 x3 x4 (ix2 r 0) = amax (uR x0 x1 x2 x3 x4 r) := by
  rw [uX, uMax_pt _ _ _ _ _ _ _ rfl]
  simp only [u_at]

theorem qs_eq (m : FVec Ideal S256x1 .f32) : k0_pay30 m (k0_pay29 (F := Ideal)) = fun i => scaleOf (m i) := by
  unfold k0_pay30 k0_pay29
  exact select_scale m

theorem uCode_pt (u : FVec Ideal S256x2560 .f32) (m : FVec Ideal S256x1 .f32) (r : Fin 256) (j : Fin 2560) :
    k0_pay31 u m (k0_pay29 (F := Ideal)) (ix2 r j) = code (scaleOf (m (ix2 r 0))) (u (ix2 r j)) := by
  rw [← code_recip]
  unfold k0_pay31
  rw [qs_eq]
  pointwise

theorem uCode_st (u : FVec Ideal S256x2560 .f32) (m z : FVec Ideal S256x1 .f32) (r : Fin 256) (j : Fin 2560) :
    k0_pay32 u m z (ix3 0 r j) = k0_pay31 u m z (ix2 r j) := by
  unfold k0_pay32
  generalize k0_pay31 u m z = c
  pointwise

theorem uScaleRow_pt (m : FVec Ideal S256x1 .f32) (r : Fin 256) :
    k0_pay33 m (k0_pay29 (F := Ideal)) (ix2 0 r) = scaleOf (m (ix2 r 0)) := by
  unfold k0_pay33
  rw [qs_eq]
  pointwise

theorem uScale_st (m z : FVec Ideal S256x1 .f32) (r : Fin 256) : k0_pay34 m z (ix3 0 0 r) = k0_pay33 m z (ix2 0 r) := by
  unfold k0_pay34
  generalize k0_pay33 m z = c
  pointwise

abbrev uC : FVec Ideal S256x2560 .fp8e4m3 := k0_pay31 (uB x0 x1 x2 x3 x4) (uX x0 x1 x2 x3 x4) (k0_pay29 (F := Ideal))
abbrev uS : FVec Ideal S1x256 .f32 := k0_pay33 (uX x0 x1 x2 x3 x4) (k0_pay29 (F := Ideal))

theorem uCode (r : Fin 256) (j : Fin 2560) : uC x0 x1 x2 x3 x4 (ix2 r j) = codes (uR x0 x1 x2 x3 x4 r) j := by
  rw [uC, uCode_pt, uX_at, u_at, codes, qscale]

theorem uScale (r : Fin 256) : uS x0 x1 x2 x3 x4 (ix2 0 r) = qscale (uR x0 x1 x2 x3 x4 r) := by
  rw [uS, uScaleRow_pt, uX_at, qscale]

end Cert.MlpVidIdeal.Rows

end
-- ==== Proof.MlpVidIdealRowsH.lean ====
/-
  What the video feed-forward kernel's body leaves in its outputs' buffers, one row of the 256 at a time: each stored value is
  the layer's mathematics (Spec) on that row of the blocks. The scratch rows the body fills by slices and reads back whole
  are put together here as well.
-/
module

public import proofs.«01_k».proof.Proof.MlpVidIdealRowsU
import proofs.«01_k».proof.Proof.Spec
public import proofs.«01_k».proof.Proof.MlpVidIdealFrame
public import Idealize.ShloMosaic.Lib.Pipeline.ReadBack

@[expose] public section

set_option maxRecDepth 16384

noncomputable section

namespace Cert.MlpVidIdeal.Rows

open Idealize.ShloMosaic Cert.Spec Cert.MlpVidIdeal Cert.MlpVidIdeal.Gen Cert.MlpVidIdeal.Body

variable (x0 : Vec Ideal S1x256x2560 .bf16) (x1 : Vec Ideal S1x5x256x128 .f32) (x2 : Vec Ideal S1x6x2560 .f32)
  (x3 : Vec Ideal S640x2560 .fp8e4m3) (x4 : Vec Ideal S1x2560 .f32) (x5 : Vec Ideal S1728x2560 .fp8e4m3)
  (x6 : Vec Ideal S1728x1 .f32) (x7 : Vec Ideal S1728x2560 .fp8e4m3) (x8 : Vec Ideal S1728x1 .f32)
  (x9 : Vec Ideal S1728x2560 .fp8e4m3) (x10 : Vec Ideal S1x2560 .f32)

/-! The hidden row, in three slices. -/

theorem g_pt (u : FVec Ideal S256x2560 .f32) (m : FVec Ideal S256x1 .f32) (w : Vec Ideal S576x2560 .fp8e4m3) (s : Vec Ideal S576x1 .f32)
    (c : FVec Ideal S256x2560 .fp8e4m3) (hc : k0_pay31 u m (k0_pay29 (F := Ideal)) = c) (q : FVec Ideal S1x256 .f32)
    (hq : k0_pay33 m (k0_pay29 (F := Ideal)) = q) (l : Fin 576) (r : Fin 256) :
    k0_pay35 u m (k0_pay29 (F := Ideal)) w s (ix2 l r) = (∑ k, w (ix2 l k) * c (ix2 r k)) * q (ix2 0 r) * s (ix2 l 0) := by
  unfold k0_pay35
  rw [hc, hq]
  pointwise

theorem p_pt (u : FVec Ideal S256x2560 .f32) (m : FVec Ideal S256x1 .f32) (w : Vec Ideal S576x2560 .fp8e4m3)
    (c : FVec Ideal S256x2560 .fp8e4m3) (hc : k0_pay31 u m (k0_pay29 (F := Ideal)) = c) (q : FVec Ideal S1x256 .f32)
    (hq : k0_pay33 m (k0_pay29 (F := Ideal)) = q) (l : Fin 576) (r : Fin 256) :
    k0_pay36 u m (k0_pay29 (F := Ideal)) w (ix2 l r) = (∑ k, w (ix2 l k) * c (ix2 r k)) * q (ix2 0 r) := by
  unfold k0_pay36
  rw [hc, hq]
  pointwise

theorem h0_pt (g p : FVec Ideal S576x256 .f32) (s : Vec Ideal S576x1 .f32) (l : Fin 576) (r : Fin 256) :
    k0_pay37 g p s (ix2 l r) = g (ix2 l r) * Ideal.logistic (g (ix2 l r)) * (p (ix2 l r) * s (ix2 l 0)) := by
  pointwise [k0_pay37]

theorem h1_pt (c : FVec Ideal S256x2560 .fp8e4m3) (q : FVec Ideal S1x256 .f32) (w1 w3 : Vec Ideal S576x2560 .fp8e4m3) (s1 s3 : Vec Ideal S576x1 .f32)
    (l : Fin 576) (r : Fin 256) :
    k0_pay39 c q w1 s1 w3 s3 (ix2 l r)
      = ((∑ k, w1 (ix2 l k) * c (ix2 r k)) * q (ix2 0 r) * s1 (ix2 l 0))
        * Ideal.logistic ((∑ k, w1 (ix2 l k) * c (ix2 r k)) * q (ix2 0 r) * s1 (ix2 l 0))
        * ((∑ k, w3 (ix2 l k) * c (ix2 r k)) * q (ix2 0 r) * s3 (ix2 l 0)) := by
  pointwise [k0_pay39]

theorem h2_pt (c : FVec Ideal S256x2560 .fp8e4m3) (q : FVec Ideal S1x256 .f32) (w1 w3 : Vec Ideal S576x2560 .fp8e4m3) (s1 s3 : Vec Ideal S576x1 .f32)
    (l : Fin 576) (r : Fin 256) :
    k0_pay42 c q w1 s1 w3 s3 (ix2 l r)
      = ((∑ k, w1 (ix2 l k) * c (ix2 r k)) * q (ix2 0 r) * s1 (ix2 l 0))
        * Ideal.logistic ((∑ k, w1 (ix2 l k) * c (ix2 r k)) * q (ix2 0 r) * s1 (ix2 l 0))
        * ((∑ k, w3 (ix2 l k) * c (ix2 r k)) * q (ix2 0 r) * s3 (ix2 l 0)) := by
  pointwise [k0_pay42]

abbrev gB : FVec Ideal S576x256 .f32 := k0_pay35 (uB x0 x1 x2 x3 x4) (uX x0 x1 x2 x3 x4) (k0_pay29 (F := Ideal)) (wch0 x5) (sch0 x6)
abbrev pB : FVec Ideal S576x256 .f32 := k0_pay36 (uB x0 x1 x2 x3 x4) (uX x0 x1 x2 x3 x4) (k0_pay29 (F := Ideal)) (wch0 x7)
abbrev h0B : FVec Ideal S576x256 .f32 := k0_pay37 (gB x0 x1 x2 x3 x4 x5 x6) (pB x0 x1 x2 x3 x4 x7) (sch0 x8)
abbrev h1B : FVec Ideal S576x256 .f32 := k0_pay39 (uC x0 x1 x2 x3 x4) (uS x0 x1 x2 x3 x4) (wch1 x5) (sch1 x6) (wch1 x7) (sch1 x8)
abbrev h2B : FVec Ideal S576x256 .f32 := k0_pay42 (uC x0 x1 x2 x3 x4) (uS x0 x1 x2 x3 x4) (wch2 x5) (sch2 x6) (wch2 x7) (sch2 x8)

theorem lin_eq {n k : ℕ} (v : Fin n → EReal) (w : Fin n → Fin k → EReal) (ws : Fin k → EReal) (j : Fin k) :
    (∑ x, w x j * codes v x) * qscale v * ws j = lin v w ws j := by
  unfold lin
  congr 2
  exact Finset.sum_congr rfl fun x _ => mul_comm _ _

theorem h0_at (l : Fin 576) (r : Fin 256) :
    h0B x0 x1 x2 x3 x4 x5 x6 x7 x8 (ix2 l r) = hR x0 x1 x2 x3 x4 x5 x6 x7 x8 r ⟨0 * 576 + l, by omega⟩ := by
  rw [h0B, h0_pt, gB, pB, g_pt _ _ _ _ (uC x0 x1 x2 x3 x4) rfl (uS x0 x1 x2 x3 x4) rfl, p_pt _ _ _ (uC x0 x1 x2 x3 x4) rfl (uS x0 x1 x2 x3 x4) rfl]
  simp only [uCode, uScale, wch0_at, sch0_at]
  rw [hR, hidRow, ← lin_eq, ← lin_eq]

theorem h1_at (l : Fin 576) (r : Fin 256) :
    h1B x0 x1 x2 x3 x4 x5 x6 x7 x8 (ix2 l r) = hR x0 x1 x2 x3 x4 x5 x6 x7 x8 r ⟨1 * 576 + l, by omega⟩ := by
  rw [h1B, h1_pt]
  simp only [uCode, uScale, wch1_at, sch1_at]
  rw [hR, hidRow, ← lin_eq, ← lin_eq]

theorem h2_at (l : Fin 576) (r : Fin 256) :
    h2B x0 x1 x2 x3 x4 x5 x6 x7 x8 (ix2 l r) = hR x0 x1 x2 x3 x4 x5 x6 x7 x8 r ⟨2 * 576 + l, by omega⟩ := by
  rw [h2B, h2_pt]
  simp only [uCode, uScale, wch2_at, sch2_at]
  rw [hR, hidRow, ← lin_eq, ← lin_eq]

theorem hMax_pt (c : FVec Ideal S256x2560 .fp8e4m3) (q : FVec Ideal S1x256 .f32) (g p : FVec Ideal S576x256 .f32) (s : Vec Ideal S576x1 .f32)
    (w1 : Vec Ideal S576x2560 .fp8e4m3) (s1 : Vec Ideal S576x1 .f32) (w3 : Vec Ideal S576x2560 .fp8e4m3) (s3 : Vec Ideal S576x1 .f32)
    (a : FVec Ideal S576x256 .f32) (ha : k0_pay37 g p s = a) (b : FVec Ideal S576x256 .f32) (hb : k0_pay39 c q w1 s1 w3 s3 = b) (r : Fin 256) :
    k0_pay41 c q g p s w1 s1 w3 s3 (ix2 0 r) = max (amax fun l => a (ix2 l r)) (amax fun l => b (ix2 l r)) := by
  unfold k0_pay41 amax
  rw [ha, hb]
  pointwise

theorem hScale_pt (c : FVec Ideal S256x2560 .fp8e4m3) (q m : FVec Ideal S1x256 .f32)
    (w1 : Vec Ideal S576x2560 .fp8e4m3) (s1 : Vec Ideal S576x1 .f32) (w3 : Vec Ideal S576x2560 .fp8e4m3) (s3 : Vec Ideal S576x1 .f32)
    (b : FVec Ideal S576x256 .f32) (hb : k0_pay42 c q w1 s1 w3 s3 = b) (r : Fin 256) :
    k0_pay44 c q m w1 s1 w3 s3 (ix2 0 r) = scaleOf (max (m (ix2 0 r)) (amax fun l => b (ix2 l r))) := by
  unfold k0_pay44
  rw [hb]
  refine (congrFun (select_scale _) _).trans (congrArg scaleOf ?_)
  unfold amax
  pointwise

abbrev hM : FVec Ideal S1x256 .f32 :=
  k0_pay41 (uC x0 x1 x2 x3 x4) (uS x0 x1 x2 x3 x4) (gB x0 x1 x2 x3 x4 x5 x6) (pB x0 x1 x2 x3 x4 x7) (sch0 x8) (wch1 x5) (sch1 x6) (wch1 x7) (sch1 x8)
abbrev hS : FVec Ideal S1x256 .f32 :=
  k0_pay44 (uC x0 x1 x2 x3 x4) (uS x0 x1 x2 x3 x4) (hM x0 x1 x2 x3 x4 x5 x6 x7 x8) (wch2 x5) (sch2 x6) (wch2 x7) (sch2 x8)

theorem hScale (r : Fin 256) : hS x0 x1 x2 x3 x4 x5 x6 x7 x8 (ix2 0 r) = qscale (hR x0 x1 x2 x3 x4 x5 x6 x7 x8 r) := by
  rw [hS, hScale_pt _ _ _ _ _ _ _ (h2B x0 x1 x2 x3 x4 x5 x6 x7 x8) rfl, hM,
    hMax_pt _ _ _ _ _ _ _ _ _ (h0B x0 x1 x2 x3 x4 x5 x6 x7 x8) rfl (h1B x0 x1 x2 x3 x4 x5 x6 x7 x8) rfl, qscale]
  simp only [h0_at, h1_at, h2_at]
  exact congrArg scaleOf (amax_three (hR x0 x1 x2 x3 x4 x5 x6 x7 x8 r)
    (fun p l => hR x0 x1 x2 x3 x4 x5 x6 x7 x8 r ⟨p * 576 + l, by omega⟩) fun p l => rfl)

theorem hScale_st (c : FVec Ideal S256x2560 .fp8e4m3) (q m : FVec Ideal S1x256 .f32)
    (w1 : Vec Ideal S576x2560 .fp8e4m3) (s1 : Vec Ideal S576x1 .f32) (w3 : Vec Ideal S576x2560 .fp8e4m3) (s3 : Vec Ideal S576x1 .f32) (r : Fin 256) :
    k0_pay45 c q m w1 s1 w3 s3 (ix3 0 0 r) = k0_pay44 c q m w1 s1 w3 s3 (ix2 0 r) := by
  unfold k0_pay45
  generalize k0_pay44 c q m w1 s1 w3 s3 = d
  pointwise

/-- The scratch columns the three slices fill, read whole. -/
abbrev hPieces : List (View.Piece (Elt Ideal) S1728x256 .f32) :=
  [⟨Rect.unit ![1152, 0] ![576, 256] inb_S1728x256_S576x256_1152_0, k0_pay43 (F := Ideal) (uC x0 x1 x2 x3 x4) (uS x0 x1 x2 x3 x4) (wch2 x5) (sch2 x6) (wch2 x7) (sch2 x8)⟩,
   ⟨Rect.unit ![576, 0] ![576, 256] inb_S1728x256_S576x256_576_0, k0_pay40 (F := Ideal) (uC x0 x1 x2 x3 x4) (uS x0 x1 x2 x3 x4) (wch1 x5) (sch1 x6) (wch1 x7) (sch1 x8)⟩,
   ⟨Rect.unit ![0, 0] ![576, 256] inb_S1728x256_S576x256_0_0, k0_pay38 (F := Ideal) (gB x0 x1 x2 x3 x4 x5 x6) (pB x0 x1 x2 x3 x4 x7) (sch0 x8)⟩]
abbrev hBox : Rect S1728x256 := Rect.unit ![0, 0] ![1728, 256] inb_S1728x256_S1728x256_0_0
abbrev hSc : FVec Ideal S1728x256 .f32 :=
  View.readCov (Val := Elt Ideal) (View.whole cc0_scratch2) (hPieces x0 x1 x2 x3 x4 x5 x6 x7 x8) hBox.toLoadRect

theorem st43 (c : FVec Ideal S256x2560 .fp8e4m3) (q : FVec Ideal S1x256 .f32) (w1 : Vec Ideal S576x2560 .fp8e4m3) (s1 : Vec Ideal S576x1 .f32)
    (w3 : Vec Ideal S576x2560 .fp8e4m3) (s3 : Vec Ideal S576x1 .f32) : k0_pay43 c q w1 s1 w3 s3 = k0_pay42 c q w1 s1 w3 s3 := shapeCast_id _ _
theorem st40 (c : FVec Ideal S256x2560 .fp8e4m3) (q : FVec Ideal S1x256 .f32) (w1 : Vec Ideal S576x2560 .fp8e4m3) (s1 : Vec Ideal S576x1 .f32)
    (w3 : Vec Ideal S576x2560 .fp8e4m3) (s3 : Vec Ideal S576x1 .f32) : k0_pay40 c q w1 s1 w3 s3 = k0_pay39 c q w1 s1 w3 s3 := shapeCast_id _ _
theorem st38 (g p : FVec Ideal S576x256 .f32) (s : Vec Ideal S576x1 .f32) : k0_pay38 g p s = k0_pay37 g p s := shapeCast_id _ _

theorem hR_of (r r' : Fin 256) (k k' : Fin 1728) (hr : (r : ℕ) = r') (hk : (k : ℕ) = k') :
    hR x0 x1 x2 x3 x4 x5 x6 x7 x8 r' k' = hR x0 x1 x2 x3 x4 x5 x6 x7 x8 r k := by
  obtain rfl : r = r' := Fin.ext hr
  obtain rfl : k = k' := Fin.ext hk
  rfl

theorem hCanon (y : S1728x256.Idx) :
    View.canon (hPieces x0 x1 x2 x3 x4 x5 x6 x7 x8) y = hR x0 x1 x2 x3 x4 x5 x6 x7 x8 (y 1) (y 0) := by
  unfold hPieces
  canon_tiles x h
  · exact (congrArg _ (eq_ix2 (n0 := 576) (n1 := 256) x)).trans ((congrFun (st43 _ _ _ _ _ _) _).trans ((h2_at x0 x1 x2 x3 x4 x5 x6 x7 x8 _ _).trans
      (hR_of x0 x1 x2 x3 x4 x5 x6 x7 x8 _ _ _ _ h1 (by first | exact h0 | (rw [h0]; rfl) | (rw [h0]; simp)))))
  · exact (congrArg _ (eq_ix2 (n0 := 576) (n1 := 256) x)).trans ((congrFun (st40 _ _ _ _ _ _) _).trans ((h1_at x0 x1 x2 x3 x4 x5 x6 x7 x8 _ _).trans
      (hR_of x0 x1 x2 x3 x4 x5 x6 x7 x8 _ _ _ _ h1 (by first | exact h0 | (rw [h0]; rfl) | (rw [h0]; simp)))))
  · exact (congrArg _ (eq_ix2 (n0 := 576) (n1 := 256) x)).trans ((congrFun (st38 _ _ _) _).trans ((h0_at x0 x1 x2 x3 x4 x5 x6 x7 x8 _ _).trans
      (hR_of x0 x1 x2 x3 x4 x5 x6 x7 x8 _ _ _ _ h1 (by first | exact h0 | (rw [h0]; rfl) | (rw [h0]; simp)))))

theorem hSc_at (r : Fin 256) (k : Fin 1728) : hSc x0 x1 x2 x3 x4 x5 x6 x7 x8 (ix2 k r) = hR x0 x1 x2 x3 x4 x5 x6 x7 x8 r k := by
  rw [hSc, View.readCov_eq_canon']
  refine (hCanon x0 x1 x2 x3 x4 x5 x6 x7 x8 _).trans ?_
  congr 1 <;> (ext; simp)

theorem hCode_pt (s : FVec Ideal S1x256 .f32) (v : Vec Ideal S1728x256 .f32) (r : Fin 256) (k : Fin 1728) :
    k0_pay46 s v (ix2 k r) = min c448 (max n448 (v (ix2 k r) * Ideal.div 1 (s (ix2 0 r)))) := by
  pointwise [k0_pay46]

abbrev hC : FVec Ideal S1728x256 .fp8e4m3 := k0_pay46 (hS x0 x1 x2 x3 x4 x5 x6 x7 x8) (hSc x0 x1 x2 x3 x4 x5 x6 x7 x8)

theorem hCode (r : Fin 256) (k : Fin 1728) : hC x0 x1 x2 x3 x4 x5 x6 x7 x8 (ix2 k r) = codes (hR x0 x1 x2 x3 x4 x5 x6 x7 x8 r) k := by
  rw [hC, hCode_pt, hScale, hSc_at, qscale, code_recip, codes, qscale]

theorem hCode_st (s : FVec Ideal S1x256 .f32) (v : Vec Ideal S1728x256 .f32) (r : Fin 256) (k : Fin 1728) :
    k0_pay47 s v (ix3 0 k r) = k0_pay46 s v (ix2 k r) := by
  unfold k0_pay47
  generalize k0_pay46 s v = d
  pointwise

theorem z_pt (s : FVec Ideal S1x256 .f32) (v : Vec Ideal S1728x256 .f32) (c : FVec Ideal S1728x256 .fp8e4m3) (hc : k0_pay46 s v = c)
    (y : Vec Ideal S256x2560 .f32) (g : Vec Ideal S1x1x2560 .f32) (r : Fin 256) (j : Fin 2560) :
    k0_pay1 (k0_pay48 s v x9 x10 y g) (ix3 0 r j)
      = y (ix2 r j) + g (ix3 0 0 j) * ((∑ k, c (ix2 k r) * x9 (ix2 k j)) * s (ix2 0 r) * x10 (ix2 0 j)) := by
  unfold k0_pay1 k0_pay48
  rw [hc]
  pointwise

theorem st26 (l e : FVec Ideal S256x2560 .f32) (g : Vec Ideal S1x1x2560 .f32) : k0_pay26 l e x0 g = k0_pay25 l e x0 g := shapeCast_id _ _

abbrev zB : FVec Ideal S1x256x2560 .bf16 :=
  k0_pay1 (k0_pay48 (hS x0 x1 x2 x3 x4 x5 x6 x7 x8) (hSc x0 x1 x2 x3 x4 x5 x6 x7 x8) x9 x10
    (k0_pay26 (l0 x1 x3) (k0_pay24 x4) x0 (md2 x2)) (md5 x2))

theorem z_at (r : Fin 256) (j : Fin 2560) :
    zB x0 x1 x2 x3 x4 x5 x6 x7 x8 x9 x10 (ix3 0 r j) = zR x0 x1 x2 x3 x4 x5 x6 x7 x8 x9 x10 r j := by
  rw [zB, z_pt _ _ _ _ (hC x0 x1 x2 x3 x4 x5 x6 x7 x8) rfl, st26,
    show k0_pay25 (l0 x1 x3) (k0_pay24 x4) x0 (md2 x2) (ix2 r j) = _ from y_at x0 x1 x2 x3 x4 r j, md5_at, hScale, zR, yRow, lin]
  simp only [hCode]

end Cert.MlpVidIdeal.Rows

end
-- ==== Proof.MlpVidIdealRowsOut.lean ====
/-
  What the video feed-forward kernel's body leaves in its outputs' buffers, one row of the 256 at a time: each stored value is
  the layer's mathematics (Spec) on that row of the blocks. The scratch rows the body fills by slices and reads back whole
  are put together here as well.
-/
module

public import proofs.«01_k».proof.Proof.MlpVidIdealRowsH
import proofs.«01_k».proof.Proof.Spec
public import proofs.«01_k».proof.Proof.MlpVidIdealFrame
public import Idealize.ShloMosaic.Lib.Pipeline.ReadBack

@[expose] public section

set_option maxRecDepth 16384

noncomputable section

namespace Cert.MlpVidIdeal.Rows

open Idealize.ShloMosaic Cert.Spec Cert.MlpVidIdeal Cert.MlpVidIdeal.Gen Cert.MlpVidIdeal.Body

variable (x0 : Vec Ideal S1x256x2560 .bf16) (x1 : Vec Ideal S1x5x256x128 .f32) (x2 : Vec Ideal S1x6x2560 .f32)
  (x3 : Vec Ideal S640x2560 .fp8e4m3) (x4 : Vec Ideal S1x2560 .f32) (x5 : Vec Ideal S1728x2560 .fp8e4m3)
  (x6 : Vec Ideal S1728x1 .f32) (x7 : Vec Ideal S1728x2560 .fp8e4m3) (x8 : Vec Ideal S1728x1 .f32)
  (x9 : Vec Ideal S1728x2560 .fp8e4m3) (x10 : Vec Ideal S1x2560 .f32)

/-! What the body leaves in each output's buffer. -/

variable (c : Dev nD) (t : Fin cfg0.N)

theorem left_11_eq : left_11 c t x0 x1 x2 x3 x4 x5 x6 x7 x8 x9 x10 = zB x0 x1 x2 x3 x4 x5 x6 x7 x8 x9 x10 := by
  unfold left_11 runAt
  frame_out
  try rfl

theorem left_13_eq : left_13 c t x0 x1 x2 x3 x4 x5 x6 x7 x8 x9 x10 = k0_pay21 (aM x1) (aL x1) (aSc x1) := by
  unfold left_13 runAt
  frame_out
  try rfl

theorem left_14_eq : left_14 c t x0 x1 x2 x3 x4 x5 x6 x7 x8 x9 x10 = k0_pay22 (aM x1) (aL x1) := by
  unfold left_14 runAt
  frame_out
  try rfl

theorem left_15_eq : left_15 c t x0 x1 x2 x3 x4 x5 x6 x7 x8 x9 x10 = k0_pay32 (uB x0 x1 x2 x3 x4) (uX x0 x1 x2 x3 x4) (k0_pay29 (F := Ideal)) := by
  unfold left_15 runAt
  frame_out
  try rfl

theorem left_16_eq : left_16 c t x0 x1 x2 x3 x4 x5 x6 x7 x8 x9 x10 = k0_pay34 (uX x0 x1 x2 x3 x4) (k0_pay29 (F := Ideal)) := by
  unfold left_16 runAt
  frame_out
  try rfl

theorem left_17_eq : left_17 c t x0 x1 x2 x3 x4 x5 x6 x7 x8 x9 x10 = k0_pay47 (hS x0 x1 x2 x3 x4 x5 x6 x7 x8) (hSc x0 x1 x2 x3 x4 x5 x6 x7 x8) := by
  unfold left_17 runAt
  frame_out
  try rfl

theorem left_18_eq : left_18 c t x0 x1 x2 x3 x4 x5 x6 x7 x8 x9 x10 = k0_pay45 (uC x0 x1 x2 x3 x4) (uS x0 x1 x2 x3 x4) (hM x0 x1 x2 x3 x4 x5 x6 x7 x8) (wch2 x5) (sch2 x6) (wch2 x7) (sch2 x8) := by
  unfold left_18 runAt
  frame_out
  try rfl

theorem left_12_eq : left_12 c t x0 x1 x2 x3 x4 x5 x6 x7 x8 x9 x10 =
    View.canon [⟨Rect.unit ![0, 0, 512] ![1, 256, 128] inb_S1x256x640_S1x256x128_0_0_512, k0_pay18 (F := Ideal) (hd4 x1)⟩,
      ⟨Rect.unit ![0, 0, 384] ![1, 256, 128] inb_S1x256x640_S1x256x128_0_0_384, k0_pay14 (F := Ideal) (hd3 x1)⟩,
      ⟨Rect.unit ![0, 0, 256] ![1, 256, 128] inb_S1x256x640_S1x256x128_0_0_256, k0_pay11 (F := Ideal) (k0_pay9 (hd2 x1))⟩,
      ⟨Rect.unit ![0, 0, 128] ![1, 256, 128] inb_S1x256x640_S1x256x128_0_0_128, k0_pay7 (F := Ideal) (hd1 x1)⟩,
      ⟨Rect.unit ![0, 0, 0] ![1, 256, 128] inb_S1x256x640_S1x256x128_0_0_0, k0_pay4 (F := Ideal) (hd0 x1)⟩] := by
  unfold left_12 runAt
  frame_out
  try rfl

theorem va_at (y : S1x256x640.Idx) : left_12 c t x0 x1 x2 x3 x4 x5 x6 x7 x8 x9 x10 y = aR x1 (y 1) (y 2) := by
  rw [left_12_eq]
  canon_tiles x h
  · exact (congrArg (k0_pay18 (F := Ideal) (hd4 x1)) ((eq_ix3 (n0 := 1) (n1 := 256) (n2 := 128) x).trans
      (congrArg (fun a => ix3 a (x 1) (x 2)) (Subsingleton.elim (α := Fin 1) (x 0) 0)))).trans ((va4_pt _ _ _).trans ((hd4_at x1 _ _).trans
      (aR_of x1 4 (y 1) (x 1) (x 2) (y 2) h1 (by rw [h2] <;> rfl))))
  · exact (congrArg (k0_pay14 (F := Ideal) (hd3 x1)) ((eq_ix3 (n0 := 1) (n1 := 256) (n2 := 128) x).trans
      (congrArg (fun a => ix3 a (x 1) (x 2)) (Subsingleton.elim (α := Fin 1) (x 0) 0)))).trans ((va3_pt _ _ _).trans ((hd3_at x1 _ _).trans
      (aR_of x1 3 (y 1) (x 1) (x 2) (y 2) h1 (by rw [h2] <;> rfl))))
  · exact (congrArg (k0_pay11 (F := Ideal) (k0_pay9 (F := Ideal) (hd2 x1))) ((eq_ix3 (n0 := 1) (n1 := 256) (n2 := 128) x).trans
      (congrArg (fun a => ix3 a (x 1) (x 2)) (Subsingleton.elim (α := Fin 1) (x 0) 0)))).trans ((va2_pt _ _ _).trans ((hd2_at x1 _ _).trans
      (aR_of x1 2 (y 1) (x 1) (x 2) (y 2) h1 (by rw [h2] <;> rfl))))
  · exact (congrArg (k0_pay7 (F := Ideal) (hd1 x1)) ((eq_ix3 (n0 := 1) (n1 := 256) (n2 := 128) x).trans
      (congrArg (fun a => ix3 a (x 1) (x 2)) (Subsingleton.elim (α := Fin 1) (x 0) 0)))).trans ((va1_pt _ _ _).trans ((hd1_at x1 _ _).trans
      (aR_of x1 1 (y 1) (x 1) (x 2) (y 2) h1 (by rw [h2] <;> rfl))))
  · exact (congrArg (k0_pay4 (F := Ideal) (hd0 x1)) ((eq_ix3 (n0 := 1) (n1 := 256) (n2 := 128) x).trans
      (congrArg (fun a => ix3 a (x 1) (x 2)) (Subsingleton.elim (α := Fin 1) (x 0) 0)))).trans ((va0_pt _ _ _).trans ((hd0_at x1 _ _).trans
      (aR_of x1 0 (y 1) (x 1) (x 2) (y 2) h1 (by rw [h2] <;> simp))))

end Cert.MlpVidIdeal.Rows

end
-- ==== Proof.MlpVidIdealBlocks.lean ====
/-
  The video feed-forward kernel ends with the layer's arrays. The rows of a block that lie inside the array hold the array's
  rows, whatever the rows past its end hold, and each stored row depends on its own row only; every row of an output's
  array is such a row of one block.
-/
module

public import proofs.«01_k».proof.Proof.MlpVidLayer
public import proofs.«01_k».proof.Proof.MlpVidIdealRowsOut
public import Idealize.ShloMosaic.Lib.Claim

@[expose] public section

set_option maxRecDepth 16384

noncomputable section

namespace Cert.MlpVidIdeal.Final

open Idealize.ShloMosaic Cert.Spec Cert.MlpVidIdeal Cert.MlpVidIdeal.Gen Cert.MlpVidIdeal.Body Cert.MlpVidIdeal.Rows Cert.MlpVidLayer

/-! A block's row and the arrays' row that agree have the same mathematics. -/

section Same

variable {x0 : Vec Ideal S1x256x2560 .bf16} {x1 : Vec Ideal S1x5x256x128 .f32} {x2 : Vec Ideal S1x6x2560 .f32}
  {x3 : Vec Ideal S640x2560 .fp8e4m3} {x4 : Vec Ideal S1x2560 .f32} {x5 : Vec Ideal S1728x2560 .fp8e4m3}
  {x6 : Vec Ideal S1728x1 .f32} {x7 : Vec Ideal S1728x2560 .fp8e4m3} {x8 : Vec Ideal S1728x1 .f32}
  {x9 : Vec Ideal S1728x2560 .fp8e4m3} {x10 : Vec Ideal S1x2560 .f32}
  {X0 : Vec Ideal S2x12240x2560 .bf16} {X1 : Vec Ideal S2x5x12240x128 .f32} {X2 : Vec Ideal S2x6x2560 .f32}
  {X3 : Vec Ideal S640x2560 .fp8e4m3} {X4 : Vec Ideal S2560 .f32} {X5 : Vec Ideal S2560x1728 .fp8e4m3}
  {X6 : Vec Ideal S1728 .f32} {X7 : Vec Ideal S2560x1728 .fp8e4m3} {X8 : Vec Ideal S1728 .f32}
  {X9 : Vec Ideal S1728x2560 .fp8e4m3} {X10 : Vec Ideal S2560 .f32}
  {b : Fin 2} {R : Fin 12240} {r : Fin 256}
  (h0 : ∀ j, x0 (ix3 0 r j) = X0 (ix3 b R j)) (h1 : ∀ h l, x1 (ix4 0 h r l) = X1 (ix4 b h R l))
  (h2 : ∀ k j, x2 (ix3 0 k j) = X2 (ix3 b k j)) (h3 : ∀ k j, x3 (ix2 k j) = X3 (ix2 k j)) (h4 : ∀ j, x4 (ix2 0 j) = X4 (ix1 j))
  (h5 : ∀ k j, x5 (ix2 j k) = X5 (ix2 k j)) (h6 : ∀ j, x6 (ix2 j 0) = X6 (ix1 j))
  (h7 : ∀ k j, x7 (ix2 j k) = X7 (ix2 k j)) (h8 : ∀ j, x8 (ix2 j 0) = X8 (ix1 j))
  (h9 : ∀ k j, x9 (ix2 k j) = X9 (ix2 k j)) (h10 : ∀ j, x10 (ix2 0 j) = X10 (ix1 j))

include h1 in
theorem aR_same : aR x1 r = Cert.MlpVidRefIdeal.Rows.aR (attn X1) b R := funext fun k => h1 _ _

include h0 h1 h2 h3 h4 in
theorem yR_same : yR x0 x1 x2 x3 x4 r = Cert.MlpVidRefIdeal.Rows.yR X0 (attn X1) X2 X3 X4 b R := by
  rw [yR, Cert.MlpVidRefIdeal.Rows.yR, aR_same h1]
  simp only [h0, h2, h3, h4]

include h0 h1 h2 h3 h4 in
theorem uR_same : uR x0 x1 x2 x3 x4 r = Cert.MlpVidRefIdeal.Rows.uR X0 (attn X1) X2 X3 X4 b R := by
  rw [uR, Cert.MlpVidRefIdeal.Rows.uR, yR_same h0 h1 h2 h3 h4]
  simp only [h2]

include h0 h1 h2 h3 h4 h5 h6 h7 h8 in
theorem hR_same : hR x0 x1 x2 x3 x4 x5 x6 x7 x8 r = Cert.MlpVidRefIdeal.Rows.hR X0 (attn X1) X2 X3 X4 X5 X6 X7 X8 b R := by
  rw [hR, Cert.MlpVidRefIdeal.Rows.hR, uR_same h0 h1 h2 h3 h4]
  simp only [h5, h6, h7, h8]

include h0 h1 h2 h3 h4 h5 h6 h7 h8 h9 h10 in
theorem zR_same : zR x0 x1 x2 x3 x4 x5 x6 x7 x8 x9 x10 r
    = Cert.MlpVidRefIdeal.Rows.zR X0 (attn X1) X2 X3 X4 X5 X6 X7 X8 X9 X10 b R := by
  rw [zR, Cert.MlpVidRefIdeal.Rows.zR, hR_same h0 h1 h2 h3 h4 h5 h6 h7 h8, yR_same h0 h1 h2 h3 h4]
  simp only [h2, h9, h10]

end Same

/-! The windows' blocks. -/

theorem fill_at {sig : RefSig} {G : Pipeline.Grid} (w : Pipeline.Window sig G) {α : Type} (i : G.Coords) (d : w.block.Idx → α)
    (g : (w.xblock i).Idx → α) (y : w.block.Idx) (h : ∀ a, (y a).val < w.xsize i a) : w.fill i d g y = g fun a => ⟨y a, h a⟩ :=
  w.fill_xinj i d g fun a => ⟨y a, h a⟩

theorem idx_0 : ∀ t : Fin cfg0.N, win0_0.index t = ![(grid0.coords t 0).val, (grid0.coords t 1).val, 0] := by decide +kernel
theorem idx_1 : ∀ t : Fin cfg0.N, win0_1.index t = ![(grid0.coords t 0).val, 0, (grid0.coords t 1).val, 0] := by decide +kernel
theorem idx_2 : ∀ t : Fin cfg0.N, win0_2.index t = ![(grid0.coords t 0).val, 0, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![0, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![0, 0] := by decide +kernel
theorem idx_10 : ∀ t : Fin cfg0.N, win0_10.index t = ![0, 0] := by decide +kernel
theorem idx_11 : ∀ t : Fin cfg0.N, win0_11.index t = ![(grid0.coords t 0).val, (grid0.coords t 1).val, 0] := by decide +kernel
theorem idx_12 : ∀ t : Fin cfg0.N, win0_12.index t = ![(grid0.coords t 0).val, (grid0.coords t 1).val, 0] := by decide +kernel
theorem idx_13 : ∀ t : Fin cfg0.N, win0_13.index t = ![(grid0.coords t 0).val, (grid0.coords t 1).val, 0] := by decide +kernel
theorem idx_14 : ∀ t : Fin cfg0.N, win0_14.index t = ![(grid0.coords t 0).val, 0, (grid0.coords t 1).val] := by decide +kernel
theorem idx_15 : ∀ t : Fin cfg0.N, win0_15.index t = ![(grid0.coords t 0).val, (grid0.coords t 1).val, 0] := by decide +kernel
theorem idx_16 : ∀ t : Fin cfg0.N, win0_16.index t = ![(grid0.coords t 0).val, 0, (grid0.coords t 1).val] := by decide +kernel
theorem idx_17 : ∀ t : Fin cfg0.N, win0_17.index t = ![(grid0.coords t 0).val, 0, (grid0.coords t 1).val] := by decide +kernel
theorem idx_18 : ∀ t : Fin cfg0.N, win0_18.index t = ![(grid0.coords t 0).val, 0, (grid0.coords t 1).val] := by decide +kernel

theorem xs_0 : ∀ t : Fin cfg0.N, win0_0.xsize (grid0.coords t) 0 = 1
    ∧ win0_0.xsize (grid0.coords t) 1 = min 256 (12240 - (grid0.coords t 1).val * 256) ∧ win0_0.xsize (grid0.coords t) 2 = 2560 := by decide +kernel
theorem xs_1 : ∀ t : Fin cfg0.N, win0_1.xsize (grid0.coords t) 0 = 1 ∧ win0_1.xsize (grid0.coords t) 1 = 5
    ∧ win0_1.xsize (grid0.coords t) 2 = min 256 (12240 - (grid0.coords t 1).val * 256) ∧ win0_1.xsize (grid0.coords t) 3 = 128 := by decide +kernel

section Blocks

variable (m : (ℓ : Loc nD τ sig) → Buf (Elt Ideal) ℓ) (c : Dev nD) (t : Fin cfg0.N)

theorem rowOf (X : Vec Ideal S2560 .f32) (j : Fin 2560) : broadcastInDim S1x2560 ![1] bcast_S2560_S1x2560_1 X (ix2 0 j) = X (ix1 j) := by
  pointwise
theorem colOf (X : Vec Ideal S1728 .f32) (j : Fin 1728) : broadcastInDim S1728x1 ![0] bcast_S1728_S1728x1_0 X (ix2 j 0) = X (ix1 j) := by
  pointwise
theorem turned (X : Vec Ideal S2560x1728 .fp8e4m3) (j : Fin 1728) (k : Fin 2560) :
    transpose S1728x2560 [1, 0] X transposes_S2560x1728_S1728x2560_1_0 (ix2 j k) = X (ix2 k j) := by
  pointwise

theorem V_v0 (j : Fin 2560) : V m c main_v0 (ix2 0 j) = m ((c.tc : Thread nD τ).loc main_arg4) (ix1 j) := by
  entry_read
  exact rowOf _ j

theorem V_v1 (j : Fin 1728) (k : Fin 2560) : V m c main_v1 (ix2 j k) = m ((c.tc : Thread nD τ).loc main_arg5) (ix2 k j) := by
  entry_read
  exact turned _ j k

theorem V_v2 (j : Fin 1728) : V m c main_v2 (ix2 j 0) = m ((c.tc : Thread nD τ).loc main_arg6) (ix1 j) := by
  entry_read
  exact colOf _ j

theorem V_v3 (j : Fin 1728) (k : Fin 2560) : V m c main_v3 (ix2 j k) = m ((c.tc : Thread nD τ).loc main_arg7) (ix2 k j) := by
  entry_read
  exact turned _ j k

theorem V_v4 (j : Fin 1728) : V m c main_v4 (ix2 j 0) = m ((c.tc : Thread nD τ).loc main_arg8) (ix1 j) := by
  entry_read
  exact colOf _ j

theorem V_v5 (j : Fin 2560) : V m c main_v5 (ix2 0 j) = m ((c.tc : Thread nD τ).loc main_arg10) (ix1 j) := by
  entry_read
  exact rowOf _ j

variable (b : Fin 2) (R : Fin 12240) (r : Fin 256) (hb : (b : ℕ) = (grid0.coords t 0).val) (hR : (R : ℕ) = (grid0.coords t 1).val * 256 + r)

include hb hR in
theorem blk_0 (d) (j : Fin 2560) : (fetched m c 0 t d : Vec Ideal S1x256x2560 .bf16) (ix3 0 r j) = m ((c.tc : Thread nD τ).loc main_arg0) (ix3 b R j) := by
  obtain ⟨e0, e1, e2⟩ := xs_0 t
  have hlt := R.isLt
  refine (fill_at win0_0 (grid0.coords t) d (iblk m c 0 t) (ix3 0 r j) fun a => ?_).trans ?_
  · have h := r.isLt
    have h' := j.isLt
    fin_cases a
    · exact lt_of_lt_of_eq Nat.zero_lt_one e0.symm
    · exact lt_of_lt_of_eq (by simp only [Nat.lt_min]; constructor <;> first | omega | (simp; done) | (simp; omega)) e1.symm
    · exact lt_of_lt_of_eq j.isLt e2.symm
  · rw [← V_main_arg0 m c]
    blk_ext [iblk, idx_0 t]

include hb hR in
theorem blk_1 (d) (h : Fin 5) (l : Fin 128) : (fetched m c 1 t d : Vec Ideal S1x5x256x128 .f32) (ix4 0 h r l) = m ((c.tc : Thread nD τ).loc main_arg1) (ix4 b h R l) := by
  obtain ⟨e0, e1, e2, e3⟩ := xs_1 t
  have hlt := R.isLt
  refine (fill_at win0_1 (grid0.coords t) d (iblk m c 1 t) (ix4 0 h r l) fun a => ?_).trans ?_
  · fin_cases a
    · exact lt_of_lt_of_eq Nat.zero_lt_one e0.symm
    · exact lt_of_lt_of_eq h.isLt e1.symm
    · exact lt_of_lt_of_eq (by have h := r.isLt; simp only [Nat.lt_min]; constructor <;> first | omega | (simp; done) | (simp; omega)) e2.symm
    · exact lt_of_lt_of_eq l.isLt e3.symm
  · rw [← V_main_arg1 m c]
    blk_ext [iblk, idx_1 t]

include hb in
theorem blk_2 (k : Fin 6) (j : Fin 2560) : (iblk m c 2 t : Vec Ideal S1x6x2560 .f32) (ix3 0 k j) = m ((c.tc : Thread nD τ).loc main_arg2) (ix3 b k j) := by
  rw [← V_main_arg2 m c]
  blk_ext [iblk, idx_2 t]

theorem blk_3 (k : Fin 640) (j : Fin 2560) : (iblk m c 3 t : Vec Ideal S640x2560 .fp8e4m3) (ix2 k j) = m ((c.tc : Thread nD τ).loc main_arg3) (ix2 k j) := by
  rw [← V_main_arg3 m c]
  blk_ext [iblk, idx_3 t]

theorem blk_4 (j : Fin 2560) : (iblk m c 4 t : Vec Ideal S1x2560 .f32) (ix2 0 j) = m ((c.tc : Thread nD τ).loc main_arg4) (ix1 j) := by
  rw [← V_v0 m c j]
  blk_ext [iblk, idx_4 t]

theorem blk_5 (k : Fin 2560) (j : Fin 1728) : (iblk m c 5 t : Vec Ideal S1728x2560 .fp8e4m3) (ix2 j k) = m ((c.tc : Thread nD τ).loc main_arg5) (ix2 k j) := by
  rw [← V_v1 m c j k]
  blk_ext [iblk, idx_5 t]

theorem blk_6 (j : Fin 1728) : (iblk m c 6 t : Vec Ideal S1728x1 .f32) (ix2 j 0) = m ((c.tc : Thread nD τ).loc main_arg6) (ix1 j) := by
  rw [← V_v2 m c j]
  blk_ext [iblk, idx_6 t]

theorem blk_7 (k : Fin 2560) (j : Fin 1728) : (iblk m c 7 t : Vec Ideal S1728x2560 .fp8e4m3) (ix2 j k) = m ((c.tc : Thread nD τ).loc main_arg7) (ix2 k j) := by
  rw [← V_v3 m c j k]
  blk_ext [iblk, idx_7 t]

theorem blk_8 (j : Fin 1728) : (iblk m c 8 t : Vec Ideal S1728x1 .f32) (ix2 j 0) = m ((c.tc : Thread nD τ).loc main_arg8) (ix1 j) := by
  rw [← V_v4 m c j]
  blk_ext [iblk, idx_8 t]

theorem blk_9 (k : Fin 1728) (j : Fin 2560) : (iblk m c 9 t : Vec Ideal S1728x2560 .fp8e4m3) (ix2 k j) = m ((c.tc : Thread nD τ).loc main_arg9) (ix2 k j) := by
  rw [← V_main_arg9 m c]
  blk_ext [iblk, idx_9 t]

theorem blk_10 (j : Fin 2560) : (iblk m c 10 t : Vec Ideal S1x2560 .f32) (ix2 0 j) = m ((c.tc : Thread nD τ).loc main_arg10) (ix1 j) := by
  rw [← V_v5 m c j]
  blk_ext [iblk, idx_10 t]

end Blocks

end Cert.MlpVidIdeal.Final

end
-- ==== Proof.MlpVidIdealFinal.lean ====
/-
  The video feed-forward kernel ends with the layer's arrays: what each point leaves on the rows of an output's block that
  lie inside the array is the layer's mathematics on the array's rows, and the blocks cover the array.
-/
module

public import proofs.«01_k».proof.Proof.MlpVidLayer
public import proofs.«01_k».proof.Proof.MlpVidIdealBlocks
public import Idealize.ShloMosaic.Lib.Pipeline.ArrRel
public import Idealize.ShloMosaic.Lib.Claim

@[expose] public section

set_option maxRecDepth 16384

noncomputable section

namespace Cert.MlpVidIdeal.Final

open Idealize.ShloMosaic Cert.Spec Cert.MlpVidIdeal Cert.MlpVidIdeal.Gen Cert.MlpVidIdeal.Body Cert.MlpVidIdeal.Rows Cert.MlpVidLayer

variable (m : (ℓ : Loc nD τ sig) → Buf (Elt Ideal) ℓ) (c : Dev nD) (t : Fin cfg0.N)

theorem row_11 (d0 d1) (q : S1x256x2560.Idx) (p : S2x12240x2560.Idx) (hb : (p 0 : ℕ) = (grid0.coords t 0).val) (hR : (p 1 : ℕ) = (grid0.coords t 1).val * 256 + (q 1 : ℕ)) (hl : p 2 = q 2) :
    (left_11 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t) : Vec Ideal S1x256x2560 .bf16) q = zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) p := by
  rw [show zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) p = zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix3 (p 0) (p 1) (q 2)) from congrArg _ ((eq_ix3 p).trans (by rw [hl]))]
  rw [left_11_eq]
  refine (congrArg _ ((eq_ix3 (n0 := 1) q).trans (congrArg (fun a => ix3 a (q 1) (q 2)) (Subsingleton.elim (α := Fin 1) (q 0) 0)))).trans ?_
  exact (z_at (fetched m c 0 t d0) (fetched m c 1 t d1) (iblk m c 2 t) (iblk m c 3 t) (iblk m c 4 t) (iblk m c 5 t) (iblk m c 6 t) (iblk m c 7 t) (iblk m c 8 t) (iblk m c 9 t) (iblk m c 10 t) (q 1) (q 2)).trans (congrFun (zR_same (blk_0 m c t (p 0) (p 1) (q 1) hb hR d0) (blk_1 m c t (p 0) (p 1) (q 1) hb hR d1) (blk_2 m c t (p 0) hb) (blk_3 m c t) (blk_4 m c t) (blk_5 m c t) (blk_6 m c t) (blk_7 m c t) (blk_8 m c t) (blk_9 m c t) (blk_10 m c t)) (q 2))

theorem row_12 (d0 d1) (q : S1x256x640.Idx) (p : S2x12240x640.Idx) (hb : (p 0 : ℕ) = (grid0.coords t 0).val) (hR : (p 1 : ℕ) = (grid0.coords t 1).val * 256 + (q 1 : ℕ)) (hl : p 2 = q 2) :
    (left_12 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t) : Vec Ideal S1x256x640 .bf16) q = vaArr (m ((c.tc : Thread nD τ).loc main_arg1)) p := by
  rw [show vaArr (m ((c.tc : Thread nD τ).loc main_arg1)) p = vaArr (m ((c.tc : Thread nD τ).loc main_arg1)) (ix3 (p 0) (p 1) (q 2)) from congrArg _ ((eq_ix3 p).trans (by rw [hl]))]
  exact (va_at (fetched m c 0 t d0) (fetched m c 1 t d1) (iblk m c 2 t) (iblk m c 3 t) (iblk m c 4 t) (iblk m c 5 t) (iblk m c 6 t) (iblk m c 7 t) (iblk m c 8 t) (iblk m c 9 t) (iblk m c 10 t) c t q).trans (congrFun (aR_same (blk_1 m c t (p 0) (p 1) (q 1) hb hR d1)) (q 2))

theorem row_13 (d0 d1) (q : S1x256x640.Idx) (p : S2x12240x640.Idx) (hb : (p 0 : ℕ) = (grid0.coords t 0).val) (hR : (p 1 : ℕ) = (grid0.coords t 1).val * 256 + (q 1 : ℕ)) (hl : p 2 = q 2) :
    (left_13 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t) : Vec Ideal S1x256x640 .fp8e4m3) q = acArr (m ((c.tc : Thread nD τ).loc main_arg1)) p := by
  rw [show acArr (m ((c.tc : Thread nD τ).loc main_arg1)) p = acArr (m ((c.tc : Thread nD τ).loc main_arg1)) (ix3 (p 0) (p 1) (q 2)) from congrArg _ ((eq_ix3 p).trans (by rw [hl]))]
  rw [left_13_eq]
  refine (congrArg _ ((eq_ix3 (n0 := 1) q).trans (congrArg (fun a => ix3 a (q 1) (q 2)) (Subsingleton.elim (α := Fin 1) (q 0) 0)))).trans ?_
  exact ((aCode_st _ _ _ (q 1) (q 2)).trans (aCode (fetched m c 1 t d1) (q 1) (q 2))).trans (congrArg (fun v => codes v (q 2)) (aR_same (blk_1 m c t (p 0) (p 1) (q 1) hb hR d1)))

theorem row_14 (d0 d1) (q : S1x1x256.Idx) (p : S2x1x12240.Idx) (hb : (p 0 : ℕ) = (grid0.coords t 0).val) (hR : (p 2 : ℕ) = (grid0.coords t 1).val * 256 + (q 2 : ℕ)) :
    (left_14 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t) : Vec Ideal S1x1x256 .f32) q = asArr (m ((c.tc : Thread nD τ).loc main_arg1)) p := by
  rw [left_14_eq]
  refine (congrArg _ ((eq_ix3 (n0 := 1) (n1 := 1) q).trans (congrArg₂ (fun a b => ix3 a b (q 2)) (Subsingleton.elim (α := Fin 1) (q 0) 0) (Subsingleton.elim (α := Fin 1) (q 1) 0)))).trans ?_
  exact ((aScale_st _ _ (q 2)).trans (aScale (fetched m c 1 t d1) (q 2))).trans (congrArg qscale (aR_same (blk_1 m c t (p 0) (p 2) (q 2) hb hR d1)))

theorem row_15 (d0 d1) (q : S1x256x2560.Idx) (p : S2x12240x2560.Idx) (hb : (p 0 : ℕ) = (grid0.coords t 0).val) (hR : (p 1 : ℕ) = (grid0.coords t 1).val * 256 + (q 1 : ℕ)) (hl : p 2 = q 2) :
    (left_15 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t) : Vec Ideal S1x256x2560 .fp8e4m3) q = ucArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) p := by
  rw [show ucArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) p = ucArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix3 (p 0) (p 1) (q 2)) from congrArg _ ((eq_ix3 p).trans (by rw [hl]))]
  rw [left_15_eq]
  refine (congrArg _ ((eq_ix3 (n0 := 1) q).trans (congrArg (fun a => ix3 a (q 1) (q 2)) (Subsingleton.elim (α := Fin 1) (q 0) 0)))).trans ?_
  exact ((uCode_st _ _ _ (q 1) (q 2)).trans (uCode (fetched m c 0 t d0) (fetched m c 1 t d1) (iblk m c 2 t) (iblk m c 3 t) (iblk m c 4 t) (q 1) (q 2))).trans (congrArg (fun v => codes v (q 2)) (uR_same (blk_0 m c t (p 0) (p 1) (q 1) hb hR d0) (blk_1 m c t (p 0) (p 1) (q 1) hb hR d1) (blk_2 m c t (p 0) hb) (blk_3 m c t) (blk_4 m c t)))

theorem row_16 (d0 d1) (q : S1x1x256.Idx) (p : S2x1x12240.Idx) (hb : (p 0 : ℕ) = (grid0.coords t 0).val) (hR : (p 2 : ℕ) = (grid0.coords t 1).val * 256 + (q 2 : ℕ)) :
    (left_16 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t) : Vec Ideal S1x1x256 .f32) q = usArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) p := by
  rw [left_16_eq]
  refine (congrArg _ ((eq_ix3 (n0 := 1) (n1 := 1) q).trans (congrArg₂ (fun a b => ix3 a b (q 2)) (Subsingleton.elim (α := Fin 1) (q 0) 0) (Subsingleton.elim (α := Fin 1) (q 1) 0)))).trans ?_
  exact ((uScale_st _ _ (q 2)).trans (uScale (fetched m c 0 t d0) (fetched m c 1 t d1) (iblk m c 2 t) (iblk m c 3 t) (iblk m c 4 t) (q 2))).trans (congrArg qscale (uR_same (blk_0 m c t (p 0) (p 2) (q 2) hb hR d0) (blk_1 m c t (p 0) (p 2) (q 2) hb hR d1) (blk_2 m c t (p 0) hb) (blk_3 m c t) (blk_4 m c t)))

theorem row_17 (d0 d1) (q : S1x1728x256.Idx) (p : S2x1728x12240.Idx) (hb : (p 0 : ℕ) = (grid0.coords t 0).val) (hR : (p 2 : ℕ) = (grid0.coords t 1).val * 256 + (q 2 : ℕ)) (hl : p 1 = q 1) :
    (left_17 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t) : Vec Ideal S1x1728x256 .fp8e4m3) q = hcArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) p := by
  rw [show hcArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) p = hcArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix3 (p 0) (q 1) (p 2)) from congrArg _ ((eq_ix3 p).trans (by rw [hl]))]
  rw [left_17_eq]
  refine (congrArg _ ((eq_ix3 (n0 := 1) q).trans (congrArg (fun a => ix3 a (q 1) (q 2)) (Subsingleton.elim (α := Fin 1) (q 0) 0)))).trans ?_
  exact ((hCode_st _ _ (q 2) (q 1)).trans (hCode (fetched m c 0 t d0) (fetched m c 1 t d1) (iblk m c 2 t) (iblk m c 3 t) (iblk m c 4 t) (iblk m c 5 t) (iblk m c 6 t) (iblk m c 7 t) (iblk m c 8 t) (q 2) (q 1))).trans (congrArg (fun v => codes v (q 1)) (hR_same (blk_0 m c t (p 0) (p 2) (q 2) hb hR d0) (blk_1 m c t (p 0) (p 2) (q 2) hb hR d1) (blk_2 m c t (p 0) hb) (blk_3 m c t) (blk_4 m c t) (blk_5 m c t) (blk_6 m c t) (blk_7 m c t) (blk_8 m c t)))

theorem row_18 (d0 d1) (q : S1x1x256.Idx) (p : S2x1x12240.Idx) (hb : (p 0 : ℕ) = (grid0.coords t 0).val) (hR : (p 2 : ℕ) = (grid0.coords t 1).val * 256 + (q 2 : ℕ)) :
    (left_18 c t (fetched m c 0 t d0) (fetched m c 1 t d1) (iblk m c 2 t) (iblk m c 3 t) (iblk m c 4 t) (iblk m c 5 t) (iblk m c 6 t) (iblk m c 7 t) (iblk m c 8 t) (iblk m c 9 t) (iblk m c 10 t) : Vec Ideal S1x1x256 .f32) q = hsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) p := by
  rw [left_18_eq]
  refine (congrArg _ ((eq_ix3 (n0 := 1) (n1 := 1) q).trans (congrArg₂ (fun a b => ix3 a b (q 2)) (Subsingleton.elim (α := Fin 1) (q 0) 0) (Subsingleton.elim (α := Fin 1) (q 1) 0)))).trans ?_
  exact ((hScale_st _ _ _ _ _ _ _ (q 2)).trans (hScale (fetched m c 0 t d0) (fetched m c 1 t d1) (iblk m c 2 t) (iblk m c 3 t) (iblk m c 4 t) (iblk m c 5 t) (iblk m c 6 t) (iblk m c 7 t) (iblk m c 8 t) (q 2))).trans (congrArg qscale (hR_same (blk_0 m c t (p 0) (p 2) (q 2) hb hR d0) (blk_1 m c t (p 0) (p 2) (q 2) hb hR d1) (blk_2 m c t (p 0) hb) (blk_3 m c t) (blk_4 m c t) (blk_5 m c t) (blk_6 m c t) (blk_7 m c t) (blk_8 m c t)))

theorem final_11 (after) (hL : ∀ u : Fin cfg0.N, (cfg0.win 11).flush u = true → (rdat m c).Leaves 11 u (after 11 u)) :
    ((rdat m c).withAfter after).arrAt 11 cfg0.N = zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine Pipeline.Dat.arrAt_eq_of_covers _ 11 _ (by decide +kernel) fun t hf y => ?_
  obtain ⟨Y, _, d0, d1, h⟩ := hL t hf
  blk_simp
  rw [Pipeline.RDat.withAfter_after, h]
  refine row_11 m c t d0 d1 _ _ ?_ ?_ ?_
  · have h0 : (y 0).val < 1 := lt_of_lt_of_le (y 0).isLt (win0_11.xsize_le _ 0)
    blk_simp [idx_11 t]
    omega
  · blk_simp [idx_11 t]
  · apply Fin.ext
    blk_simp [idx_11 t]
    done

theorem final_12 (after) (hL : ∀ u : Fin cfg0.N, (cfg0.win 12).flush u = true → (rdat m c).Leaves 12 u (after 12 u)) :
    ((rdat m c).withAfter after).arrAt 12 cfg0.N = vaArr (m ((c.tc : Thread nD τ).loc main_arg1)) := by
  refine Pipeline.Dat.arrAt_eq_of_covers _ 12 _ (by decide +kernel) fun t hf y => ?_
  obtain ⟨Y, _, d0, d1, h⟩ := hL t hf
  blk_simp
  rw [Pipeline.RDat.withAfter_after, h]
  refine row_12 m c t d0 d1 _ _ ?_ ?_ ?_
  · have h0 : (y 0).val < 1 := lt_of_lt_of_le (y 0).isLt (win0_12.xsize_le _ 0)
    blk_simp [idx_12 t]
    omega
  · blk_simp [idx_12 t]
  · apply Fin.ext
    blk_simp [idx_12 t]
    done

theorem final_13 (after) (hL : ∀ u : Fin cfg0.N, (cfg0.win 13).flush u = true → (rdat m c).Leaves 13 u (after 13 u)) :
    ((rdat m c).withAfter after).arrAt 13 cfg0.N = acArr (m ((c.tc : Thread nD τ).loc main_arg1)) := by
  refine Pipeline.Dat.arrAt_eq_of_covers _ 13 _ (by decide +kernel) fun t hf y => ?_
  obtain ⟨Y, _, d0, d1, h⟩ := hL t hf
  blk_simp
  rw [Pipeline.RDat.withAfter_after, h]
  refine row_13 m c t d0 d1 _ _ ?_ ?_ ?_
  · have h0 : (y 0).val < 1 := lt_of_lt_of_le (y 0).isLt (win0_13.xsize_le _ 0)
    blk_simp [idx_13 t]
    omega
  · blk_simp [idx_13 t]
  · apply Fin.ext
    blk_simp [idx_13 t]
    done

theorem final_14 (after) (hL : ∀ u : Fin cfg0.N, (cfg0.win 14).flush u = true → (rdat m c).Leaves 14 u (after 14 u)) :
    ((rdat m c).withAfter after).arrAt 14 cfg0.N = asArr (m ((c.tc : Thread nD τ).loc main_arg1)) := by
  refine Pipeline.Dat.arrAt_eq_of_covers _ 14 _ (by decide +kernel) fun t hf y => ?_
  obtain ⟨Y, _, d0, d1, h⟩ := hL t hf
  blk_simp
  rw [Pipeline.RDat.withAfter_after, h]
  refine row_14 m c t d0 d1 _ _ ?_ ?_
  · have h0 : (y 0).val < 1 := lt_of_lt_of_le (y 0).isLt (win0_14.xsize_le _ 0)
    blk_simp [idx_14 t]
    omega
  · blk_simp [idx_14 t]

theorem final_15 (after) (hL : ∀ u : Fin cfg0.N, (cfg0.win 15).flush u = true → (rdat m c).Leaves 15 u (after 15 u)) :
    ((rdat m c).withAfter after).arrAt 15 cfg0.N = ucArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Pipeline.Dat.arrAt_eq_of_covers _ 15 _ (by decide +kernel) fun t hf y => ?_
  obtain ⟨Y, _, d0, d1, h⟩ := hL t hf
  blk_simp
  rw [Pipeline.RDat.withAfter_after, h]
  refine row_15 m c t d0 d1 _ _ ?_ ?_ ?_
  · have h0 : (y 0).val < 1 := lt_of_lt_of_le (y 0).isLt (win0_15.xsize_le _ 0)
    blk_simp [idx_15 t]
    omega
  · blk_simp [idx_15 t]
  · apply Fin.ext
    blk_simp [idx_15 t]
    done

theorem final_16 (after) (hL : ∀ u : Fin cfg0.N, (cfg0.win 16).flush u = true → (rdat m c).Leaves 16 u (after 16 u)) :
    ((rdat m c).withAfter after).arrAt 16 cfg0.N = usArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Pipeline.Dat.arrAt_eq_of_covers _ 16 _ (by decide +kernel) fun t hf y => ?_
  obtain ⟨Y, _, d0, d1, h⟩ := hL t hf
  blk_simp
  rw [Pipeline.RDat.withAfter_after, h]
  refine row_16 m c t d0 d1 _ _ ?_ ?_
  · have h0 : (y 0).val < 1 := lt_of_lt_of_le (y 0).isLt (win0_16.xsize_le _ 0)
    blk_simp [idx_16 t]
    omega
  · blk_simp [idx_16 t]

theorem final_17 (after) (hL : ∀ u : Fin cfg0.N, (cfg0.win 17).flush u = true → (rdat m c).Leaves 17 u (after 17 u)) :
    ((rdat m c).withAfter after).arrAt 17 cfg0.N = hcArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine Pipeline.Dat.arrAt_eq_of_covers _ 17 _ (by decide +kernel) fun t hf y => ?_
  obtain ⟨Y, _, d0, d1, h⟩ := hL t hf
  blk_simp
  rw [Pipeline.RDat.withAfter_after, h]
  refine row_17 m c t d0 d1 _ _ ?_ ?_ ?_
  · have h0 : (y 0).val < 1 := lt_of_lt_of_le (y 0).isLt (win0_17.xsize_le _ 0)
    blk_simp [idx_17 t]
    omega
  · blk_simp [idx_17 t]
  · apply Fin.ext
    blk_simp [idx_17 t]
    done

theorem final_18 (after) (hL : ∀ u : Fin cfg0.N, (cfg0.win 18).flush u = true → (rdat m c).Leaves 18 u (after 18 u)) :
    ((rdat m c).withAfter after).arrAt 18 cfg0.N = hsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine Pipeline.Dat.arrAt_eq_of_covers _ 18 _ (by decide +kernel) fun t hf y => ?_
  obtain ⟨Y, _, d0, d1, h⟩ := hL t hf
  blk_simp
  rw [Pipeline.RDat.withAfter_after, h]
  refine row_18 m c t d0 d1 _ _ ?_ ?_
  · have h0 : (y 0).val < 1 := lt_of_lt_of_le (y 0).isLt (win0_18.xsize_le _ 0)
    blk_simp [idx_18 t]
    omega
  · blk_simp [idx_18 t]

/-- Every run ends with the layer's arrays as its results. -/
theorem run (ρ : Dev nD → PrngReg) : θ_run defs (onTc (τ := τ) (main (F := Ideal))) ⟨m, fun _ => 0, ρ⟩ (fun r => ∀ c : Dev nD,
      r.2.mem ((c.tc : Thread nD τ).loc main_v6_0) = zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v6_1) = vaArr (m ((c.tc : Thread nD τ).loc main_arg1))
      ∧ r.2.mem ((c.tc : Thread nD τ).loc main_v6_2) = acArr (m ((c.tc : Thread nD τ).loc main_arg1))
      ∧ r.2.mem ((c.tc : Thread nD τ).loc main_v6_3) = asArr (m ((c.tc : Thread nD τ).loc main_arg1))
      ∧ r.2.mem ((c.tc : Thread nD τ).loc main_v6_4) = ucArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_5) = usArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_6) = hcArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v6_7) = hsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (θ_run defs _ _).mono (fun r hr c => by
    obtain ⟨after, hL, hA⟩ := hr.exists_exact c
    exact ⟨(hA 11).trans (final_11 m c after fun u hf => hL 11 u hf),
      (hA 12).trans (final_12 m c after fun u hf => hL 12 u hf),
      (hA 13).trans (final_13 m c after fun u hf => hL 13 u hf),
      (hA 14).trans (final_14 m c after fun u hf => hL 14 u hf),
      (hA 15).trans (final_15 m c after fun u hf => hL 15 u hf),
      (hA 16).trans (final_16 m c after fun u hf => hL 16 u hf),
      (hA 17).trans (final_17 m c after fun u hf => hL 17 u hf),
      (hA 18).trans (final_18 m c after fun u hf => hL 18 u hf)⟩) (run_main m ρ)

end Cert.MlpVidIdeal.Final

end
-- ==== Proof.MlpVidRefFinal.lean ====
/-
  The reference of the video layer's second half ends with the layer's arrays: its one block is each whole array, and what
  its body stores there is the layer's mathematics at every index.
-/
module

public import proofs.«01_k».proof.Proof.MlpVidLayer
public import proofs.«01_k».proof.Proof.Gen.MlpVidRefIdeal.Frame
public import Idealize.ShloMosaic.Lib.Claim

@[expose] public section

set_option maxRecDepth 16384

noncomputable section

namespace Cert.MlpVidRefIdeal.Final

open Idealize.ShloMosaic Cert.Spec Cert.MlpVidRefIdeal Cert.MlpVidRefIdeal.Gen Cert.MlpVidRefIdeal.Rows Cert.MlpVidLayer

section Body

variable (x0 : Vec Ideal S2x12240x2560 .bf16) (x1 : Vec Ideal S2x12240x640 .f32) (x2 : Vec Ideal S2x6x2560 .f32)
  (x3 : Vec Ideal S640x2560 .fp8e4m3) (x4 : Vec Ideal S2560 .f32) (x5 : Vec Ideal S2560x1728 .fp8e4m3)
  (x6 : Vec Ideal S1728 .f32) (x7 : Vec Ideal S2560x1728 .fp8e4m3) (x8 : Vec Ideal S1728 .f32)
  (x9 : Vec Ideal S1728x2560 .fp8e4m3) (x10 : Vec Ideal S2560 .f32)

theorem out_11 : out0_11 x0 x1 x2 x3 x4 x5 x6 x7 x8 x9 x10 = fun i => zR x0 x1 x2 x3 x4 x5 x6 x7 x8 x9 x10 (i 0) (i 1) (i 2) := by
  unfold_out out0_11
  frame_out
  funext y
  rw [eq_ix3 y]
  exact z_at x0 x1 x2 x3 x4 x5 x6 x7 x8 x9 x10 (y 0) (y 1) (y 2)

theorem out_12 : out0_12 x0 x1 x2 x3 x4 x5 x6 x7 x8 x9 x10 = fun i => aR x1 (i 0) (i 1) (i 2) := by
  unfold_out out0_12
  frame_out
  funext y
  rw [eq_ix3 y]
  exact va_st x1 (y 0) (y 1) (y 2)

theorem out_13 : out0_13 x0 x1 x2 x3 x4 x5 x6 x7 x8 x9 x10 = fun i => codes (aR x1 (i 0) (i 1)) (i 2) := by
  unfold_out out0_13
  frame_out
  funext y
  rw [eq_ix3 y]
  exact aCode x1 (y 0) (y 1) (y 2)

theorem out_14 : out0_14 x0 x1 x2 x3 x4 x5 x6 x7 x8 x9 x10 = fun i => qscale (aR x1 (i 0) (i 2)) := by
  unfold_out out0_14
  frame_out
  funext y
  have e : y = ix3 (y 0) (0 : Fin 1) (y 2) := (eq_ix3 y).trans (congrArg (fun a => ix3 (y 0) a (y 2)) (Subsingleton.elim (α := Fin 1) (y 1) 0))
  rw [e]
  exact aScale_st x1 (y 0) (y 2)

theorem out_15 : out0_15 x0 x1 x2 x3 x4 x5 x6 x7 x8 x9 x10 = fun i => codes (uR x0 x1 x2 x3 x4 (i 0) (i 1)) (i 2) := by
  unfold_out out0_15
  frame_out
  funext y
  rw [eq_ix3 y]
  exact uCode x0 x1 x2 x3 x4 (y 0) (y 1) (y 2)

theorem out_16 : out0_16 x0 x1 x2 x3 x4 x5 x6 x7 x8 x9 x10 = fun i => qscale (uR x0 x1 x2 x3 x4 (i 0) (i 2)) := by
  unfold_out out0_16
  frame_out
  funext y
  have e : y = ix3 (y 0) (0 : Fin 1) (y 2) := (eq_ix3 y).trans (congrArg (fun a => ix3 (y 0) a (y 2)) (Subsingleton.elim (α := Fin 1) (y 1) 0))
  rw [e]
  exact (uScale_st _ (y 0) (y 2)).trans (uScale x0 x1 x2 x3 x4 (y 0) (y 2))

theorem out_17 : out0_17 x0 x1 x2 x3 x4 x5 x6 x7 x8 x9 x10 = fun i => codes (hR x0 x1 x2 x3 x4 x5 x6 x7 x8 (i 0) (i 2)) (i 1) := by
  unfold_out out0_17
  frame_out
  funext y
  rw [eq_ix3 y]
  exact (hT_pt _ _ (y 0) (y 2) (y 1)).trans (hCode x0 x1 x2 x3 x4 x5 x6 x7 x8 (y 0) (y 2) (y 1))

theorem out_18 : out0_18 x0 x1 x2 x3 x4 x5 x6 x7 x8 x9 x10 = fun i => qscale (hR x0 x1 x2 x3 x4 x5 x6 x7 x8 (i 0) (i 2)) := by
  unfold_out out0_18
  frame_out
  funext y
  have e : y = ix3 (y 0) (0 : Fin 1) (y 2) := (eq_ix3 y).trans (congrArg (fun a => ix3 (y 0) a (y 2)) (Subsingleton.elim (α := Fin 1) (y 1) 0))
  rw [e]
  exact (hScale_st _ (y 0) (y 2)).trans (hScale x0 x1 x2 x3 x4 x5 x6 x7 x8 (y 0) (y 2))

end Body

theorem heads_row (X : Vec Ideal S2x5x12240x128 .f32) (b : Fin 2) (r : Fin 12240) (k : Fin 640) :
    shapeCast S2x12240x640 (transpose S2x12240x5x128 [0, 2, 1, 3] X transposes_S2x5x12240x128_S2x12240x5x128_0_2_1_3)
      shapeCasts_S2x12240x5x128_S2x12240x640 (ix3 b r k) = X (ix4 b ⟨k / 128, by omega⟩ r ⟨k % 128, by omega⟩) := by
  pointwise

variable (m : (ℓ : Loc nD τ sig) → Buf (Elt Ideal) ℓ) (c : Dev nD) (t : Fin cfg0.N)

theorem V_attn : V m c main_v1 = attn (m ((c.tc : Thread nD τ).loc main_arg1)) := by
  entry_read
  funext y
  refine (congrArg _ (eq_ix3 (n0 := 2) (n1 := 12240) (n2 := 640) y)).trans ?_
  exact heads_row _ (y 0) (y 1) (y 2)

theorem idx_0 : ∀ t : Fin cfg0.N, win0_0.index t = ![0, 0, 0] := by decide +kernel
theorem idx_1 : ∀ t : Fin cfg0.N, win0_1.index t = ![0, 0, 0] := by decide +kernel
theorem idx_2 : ∀ t : Fin cfg0.N, win0_2.index t = ![0, 0, 0] := by decide +kernel
theorem idx_3 : ∀ t : Fin cfg0.N, win0_3.index t = ![0, 0] := by decide +kernel
theorem idx_4 : ∀ t : Fin cfg0.N, win0_4.index t = ![0] := by decide +kernel
theorem idx_5 : ∀ t : Fin cfg0.N, win0_5.index t = ![0, 0] := by decide +kernel
theorem idx_6 : ∀ t : Fin cfg0.N, win0_6.index t = ![0] := by decide +kernel
theorem idx_7 : ∀ t : Fin cfg0.N, win0_7.index t = ![0, 0] := by decide +kernel
theorem idx_8 : ∀ t : Fin cfg0.N, win0_8.index t = ![0] := by decide +kernel
theorem idx_9 : ∀ t : Fin cfg0.N, win0_9.index t = ![0, 0] := by decide +kernel
theorem idx_10 : ∀ t : Fin cfg0.N, win0_10.index t = ![0] := by decide +kernel
theorem idx_11 : ∀ t : Fin cfg0.N, win0_11.index t = ![0, 0, 0] := by decide +kernel
theorem idx_12 : ∀ t : Fin cfg0.N, win0_12.index t = ![0, 0, 0] := by decide +kernel
theorem idx_13 : ∀ t : Fin cfg0.N, win0_13.index t = ![0, 0, 0] := by decide +kernel
theorem idx_14 : ∀ t : Fin cfg0.N, win0_14.index t = ![0, 0, 0] := by decide +kernel
theorem idx_15 : ∀ t : Fin cfg0.N, win0_15.index t = ![0, 0, 0] := by decide +kernel
theorem idx_16 : ∀ t : Fin cfg0.N, win0_16.index t = ![0, 0, 0] := by decide +kernel
theorem idx_17 : ∀ t : Fin cfg0.N, win0_17.index t = ![0, 0, 0] := by decide +kernel
theorem idx_18 : ∀ t : Fin cfg0.N, win0_18.index t = ![0, 0, 0] := by decide +kernel

theorem blk_0 : (iblk m c 0 t : Vec Ideal S2x12240x2560 .bf16) = m ((c.tc : Thread nD τ).loc main_arg0) := by
  rw [← V_main_arg0 m c]
  funext y
  blk_ext [iblk, idx_0 t]

theorem blk_1 : (iblk m c 1 t : Vec Ideal S2x12240x640 .f32) = attn (m ((c.tc : Thread nD τ).loc main_arg1)) := by
  rw [← V_attn m c]
  funext y
  blk_ext [iblk, idx_1 t]

theorem blk_2 : (iblk m c 2 t : Vec Ideal S2x6x2560 .f32) = m ((c.tc : Thread nD τ).loc main_arg2) := by
  rw [← V_main_arg2 m c]
  funext y
  blk_ext [iblk, idx_2 t]

theorem blk_3 : (iblk m c 3 t : Vec Ideal S640x2560 .fp8e4m3) = m ((c.tc : Thread nD τ).loc main_arg3) := by
  rw [← V_main_arg3 m c]
  funext y
  blk_ext [iblk, idx_3 t]

theorem blk_4 : (iblk m c 4 t : Vec Ideal S2560 .f32) = m ((c.tc : Thread nD τ).loc main_arg4) := by
  rw [← V_main_arg4 m c]
  funext y
  blk_ext [iblk, idx_4 t]

theorem blk_5 : (iblk m c 5 t : Vec Ideal S2560x1728 .fp8e4m3) = m ((c.tc : Thread nD τ).loc main_arg5) := by
  rw [← V_main_arg5 m c]
  funext y
  blk_ext [iblk, idx_5 t]

theorem blk_6 : (iblk m c 6 t : Vec Ideal S1728 .f32) = m ((c.tc : Thread nD τ).loc main_arg6) := by
  rw [← V_main_arg6 m c]
  funext y
  blk_ext [iblk, idx_6 t]

theorem blk_7 : (iblk m c 7 t : Vec Ideal S2560x1728 .fp8e4m3) = m ((c.tc : Thread nD τ).loc main_arg7) := by
  rw [← V_main_arg7 m c]
  funext y
  blk_ext [iblk, idx_7 t]

theorem blk_8 : (iblk m c 8 t : Vec Ideal S1728 .f32) = m ((c.tc : Thread nD τ).loc main_arg8) := by
  rw [← V_main_arg8 m c]
  funext y
  blk_ext [iblk, idx_8 t]

theorem blk_9 : (iblk m c 9 t : Vec Ideal S1728x2560 .fp8e4m3) = m ((c.tc : Thread nD τ).loc main_arg9) := by
  rw [← V_main_arg9 m c]
  funext y
  blk_ext [iblk, idx_9 t]

theorem blk_10 : (iblk m c 10 t : Vec Ideal S2560 .f32) = m ((c.tc : Thread nD τ).loc main_arg10) := by
  rw [← V_main_arg10 m c]
  funext y
  blk_ext [iblk, idx_10 t]

theorem final_11 : (dats m 0 c).arrAt 11 cfg0.N = zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (dats m 0 c).arrAt_eq_of_covers 11 _ (by decide +kernel) fun t hf y => ?_
  blk_simp
  rw [after0_11, blk_0, blk_1, blk_2, blk_3, blk_4, blk_5, blk_6, blk_7, blk_8, blk_9, blk_10, out_11]
  change zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) y = zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) _
  congr 1
  blk_ext [idx_11 t]

theorem final_12 : (dats m 0 c).arrAt 12 cfg0.N = vaArr (m ((c.tc : Thread nD τ).loc main_arg1)) := by
  refine (dats m 0 c).arrAt_eq_of_covers 12 _ (by decide +kernel) fun t hf y => ?_
  blk_simp
  rw [after0_12, blk_0, blk_1, blk_2, blk_3, blk_4, blk_5, blk_6, blk_7, blk_8, blk_9, blk_10, out_12]
  change vaArr (m ((c.tc : Thread nD τ).loc main_arg1)) y = vaArr (m ((c.tc : Thread nD τ).loc main_arg1)) _
  congr 1
  blk_ext [idx_12 t]

theorem final_13 : (dats m 0 c).arrAt 13 cfg0.N = acArr (m ((c.tc : Thread nD τ).loc main_arg1)) := by
  refine (dats m 0 c).arrAt_eq_of_covers 13 _ (by decide +kernel) fun t hf y => ?_
  blk_simp
  rw [after0_13, blk_0, blk_1, blk_2, blk_3, blk_4, blk_5, blk_6, blk_7, blk_8, blk_9, blk_10, out_13]
  change acArr (m ((c.tc : Thread nD τ).loc main_arg1)) y = acArr (m ((c.tc : Thread nD τ).loc main_arg1)) _
  congr 1
  blk_ext [idx_13 t]

theorem final_14 : (dats m 0 c).arrAt 14 cfg0.N = asArr (m ((c.tc : Thread nD τ).loc main_arg1)) := by
  refine (dats m 0 c).arrAt_eq_of_covers 14 _ (by decide +kernel) fun t hf y => ?_
  blk_simp
  rw [after0_14, blk_0, blk_1, blk_2, blk_3, blk_4, blk_5, blk_6, blk_7, blk_8, blk_9, blk_10, out_14]
  change asArr (m ((c.tc : Thread nD τ).loc main_arg1)) y = asArr (m ((c.tc : Thread nD τ).loc main_arg1)) _
  congr 1
  blk_ext [idx_14 t]

theorem final_15 : (dats m 0 c).arrAt 15 cfg0.N = ucArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 15 _ (by decide +kernel) fun t hf y => ?_
  blk_simp
  rw [after0_15, blk_0, blk_1, blk_2, blk_3, blk_4, blk_5, blk_6, blk_7, blk_8, blk_9, blk_10, out_15]
  change ucArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) y = ucArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _
  congr 1
  blk_ext [idx_15 t]

theorem final_16 : (dats m 0 c).arrAt 16 cfg0.N = usArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 16 _ (by decide +kernel) fun t hf y => ?_
  blk_simp
  rw [after0_16, blk_0, blk_1, blk_2, blk_3, blk_4, blk_5, blk_6, blk_7, blk_8, blk_9, blk_10, out_16]
  change usArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) y = usArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _
  congr 1
  blk_ext [idx_16 t]

theorem final_17 : (dats m 0 c).arrAt 17 cfg0.N = hcArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 17 _ (by decide +kernel) fun t hf y => ?_
  blk_simp
  rw [after0_17, blk_0, blk_1, blk_2, blk_3, blk_4, blk_5, blk_6, blk_7, blk_8, blk_9, blk_10, out_17]
  change hcArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) y = hcArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) _
  congr 1
  blk_ext [idx_17 t]

theorem final_18 : (dats m 0 c).arrAt 18 cfg0.N = hsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 18 _ (by decide +kernel) fun t hf y => ?_
  blk_simp
  rw [after0_18, blk_0, blk_1, blk_2, blk_3, blk_4, blk_5, blk_6, blk_7, blk_8, blk_9, blk_10, out_18]
  change hsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) y = hsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) _
  congr 1
  blk_ext [idx_18 t]

/-- Every run ends with the layer's arrays as its results. -/
theorem run (ρ : Dev nD → PrngReg) : θ_run defs (onTc (τ := τ) (main (F := Ideal))) ⟨m, fun _ => 0, ρ⟩ (fun r => ∀ c : Dev nD,
      r.2.mem ((c.tc : Thread nD τ).loc main_v2_0) = zArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v2_1) = vaArr (m ((c.tc : Thread nD τ).loc main_arg1))
      ∧ r.2.mem ((c.tc : Thread nD τ).loc main_v2_2) = acArr (m ((c.tc : Thread nD τ).loc main_arg1))
      ∧ r.2.mem ((c.tc : Thread nD τ).loc main_v2_3) = asArr (m ((c.tc : Thread nD τ).loc main_arg1))
      ∧ r.2.mem ((c.tc : Thread nD τ).loc main_v2_4) = ucArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v2_5) = usArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v2_6) = hcArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v2_7) = hsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (θ_run defs _ _).mono (fun r hr c =>
    ⟨(hr.out_eq c 11).trans (final_11 m c),
      (hr.out_eq c 12).trans (final_12 m c),
      (hr.out_eq c 13).trans (final_13 m c),
      (hr.out_eq c 14).trans (final_14 m c),
      (hr.out_eq c 15).trans (final_15 m c),
      (hr.out_eq c 16).trans (final_16 m c),
      (hr.out_eq c 17).trans (final_17 m c),
      (hr.out_eq c 18).trans (final_18 m c)⟩) (run_main m ρ)

end Cert.MlpVidRefIdeal.Final

end
-- ==== Proof.MlpVidAlgebraic.lean ====
/-
  The kernel and the reference, from memories that agree on the arguments, end with equal results: both end with the layer's
  arrays over the arguments.
-/
module

public import proofs.«01_k».proof.Defs
public import proofs.«01_k».proof.Proof.MlpVidIdealFinal
public import proofs.«01_k».proof.Proof.MlpVidRefFinal
public import proofs.«01_k».proof.Proof.Gen.MlpVidIdeal
public import proofs.«01_k».proof.Proof.Gen.MlpVidRefIdeal

@[expose] public section

noncomputable section

namespace Cert.MlpVidAlgebraic

open Idealize.ShloMosaic Cert.MlpVidLayer

theorem algebraic : Cert.algebraic_MlpVidIdeal_MlpVidRefIdeal
    (hMlpVidIdeal := Cert.MlpVidIdeal.Gen.facts) (hMlpVidRefIdeal := Cert.MlpVidRefIdeal.Gen.facts) := by
  intro m g m' g' _ hag
  refine ⟨fun c => zArr (m ((c.tc : Thread Cert.MlpVidIdeal.nD Cert.MlpVidIdeal.τ).loc Cert.MlpVidIdeal.main_arg0)) (m ((c.tc : Thread Cert.MlpVidIdeal.nD Cert.MlpVidIdeal.τ).loc Cert.MlpVidIdeal.main_arg1)) (m ((c.tc : Thread Cert.MlpVidIdeal.nD Cert.MlpVidIdeal.τ).loc Cert.MlpVidIdeal.main_arg2)) (m ((c.tc : Thread Cert.MlpVidIdeal.nD Cert.MlpVidIdeal.τ).loc Cert.MlpVidIdeal.main_arg3)) (m ((c.tc : Thread Cert.MlpVidIdeal.nD Cert.MlpVidIdeal.τ).loc Cert.MlpVidIdeal.main_arg4)) (m ((c.tc : Thread Cert.MlpVidIdeal.nD Cert.MlpVidIdeal.τ).loc Cert.MlpVidIdeal.main_arg5)) (m ((c.tc : Thread Cert.MlpVidIdeal.nD Cert.MlpVidIdeal.τ).loc Cert.MlpVidIdeal.main_arg6)) (m ((c.tc : Thread Cert.MlpVidIdeal.nD Cert.MlpVidIdeal.τ).loc Cert.MlpVidIdeal.main_arg7)) (m ((c.tc : Thread Cert.MlpVidIdeal.nD Cert.MlpVidIdeal.τ).loc Cert.MlpVidIdeal.main_arg8)) (m ((c.tc : Thread Cert.MlpVidIdeal.nD Cert.MlpVidIdeal.τ).loc Cert.MlpVidIdeal.main_arg9)) (m ((c.tc : Thread Cert.MlpVidIdeal.nD Cert.MlpVidIdeal.τ).loc Cert.MlpVidIdeal.main_arg10)),
      fun c => vaArr (m ((c.tc : Thread Cert.MlpVidIdeal.nD Cert.MlpVidIdeal.τ).loc Cert.MlpVidIdeal.main_arg1)),
      fun c => acArr (m ((c.tc : Thread Cert.MlpVidIdeal.nD Cert.MlpVidIdeal.τ).loc Cert.MlpVidIdeal.main_arg1)),
      fun c => asArr (m ((c.tc : Thread Cert.MlpVidIdeal.nD Cert.MlpVidIdeal.τ).loc Cert.MlpVidIdeal.main_arg1)),
      fun c => ucArr (m ((c.tc : Thread Cert.MlpVidIdeal.nD Cert.MlpVidIdeal.τ).loc Cert.MlpVidIdeal.main_arg0)) (m ((c.tc : Thread Cert.MlpVidIdeal.nD Cert.MlpVidIdeal.τ).loc Cert.MlpVidIdeal.main_arg1)) (m ((c.tc : Thread Cert.MlpVidIdeal.nD Cert.MlpVidIdeal.τ).loc Cert.MlpVidIdeal.main_arg2)) (m ((c.tc : Thread Cert.MlpVidIdeal.nD Cert.MlpVidIdeal.τ).loc Cert.MlpVidIdeal.main_arg3)) (m ((c.tc : Thread Cert.MlpVidIdeal.nD Cert.MlpVidIdeal.τ).loc Cert.MlpVidIdeal.main_arg4)),
      fun c => usArr (m ((c.tc : Thread Cert.MlpVidIdeal.nD Cert.MlpVidIdeal.τ).loc Cert.MlpVidIdeal.main_arg0)) (m ((c.tc : Thread Cert.MlpVidIdeal.nD Cert.MlpVidIdeal.τ).loc Cert.MlpVidIdeal.main_arg1)) (m ((c.tc : Thread Cert.MlpVidIdeal.nD Cert.MlpVidIdeal.τ).loc Cert.MlpVidIdeal.main_arg2)) (m ((c.tc : Thread Cert.MlpVidIdeal.nD Cert.MlpVidIdeal.τ).loc Cert.MlpVidIdeal.main_arg3)) (m ((c.tc : Thread Cert.MlpVidIdeal.nD Cert.MlpVidIdeal.τ).loc Cert.MlpVidIdeal.main_arg4)),
      fun c => hcArr (m ((c.tc : Thread Cert.MlpVidIdeal.nD Cert.MlpVidIdeal.τ).loc Cert.MlpVidIdeal.main_arg0)) (m ((c.tc : Thread Cert.MlpVidIdeal.nD Cert.MlpVidIdeal.τ).loc Cert.MlpVidIdeal.main_arg1)) (m ((c.tc : Thread Cert.MlpVidIdeal.nD Cert.MlpVidIdeal.τ).loc Cert.MlpVidIdeal.main_arg2)) (m ((c.tc : Thread Cert.MlpVidIdeal.nD Cert.MlpVidIdeal.τ).loc Cert.MlpVidIdeal.main_arg3)) (m ((c.tc : Thread Cert.MlpVidIdeal.nD Cert.MlpVidIdeal.τ).loc Cert.MlpVidIdeal.main_arg4)) (m ((c.tc : Thread Cert.MlpVidIdeal.nD Cert.MlpVidIdeal.τ).loc Cert.MlpVidIdeal.main_arg5)) (m ((c.tc : Thread Cert.MlpVidIdeal.nD Cert.MlpVidIdeal.τ).loc Cert.MlpVidIdeal.main_arg6)) (m ((c.tc : Thread Cert.MlpVidIdeal.nD Cert.MlpVidIdeal.τ).loc Cert.MlpVidIdeal.main_arg7)) (m ((c.tc : Thread Cert.MlpVidIdeal.nD Cert.MlpVidIdeal.τ).loc Cert.MlpVidIdeal.main_arg8)),
      fun c => hsArr (m ((c.tc : Thread Cert.MlpVidIdeal.nD Cert.MlpVidIdeal.τ).loc Cert.MlpVidIdeal.main_arg0)) (m ((c.tc : Thread Cert.MlpVidIdeal.nD Cert.MlpVidIdeal.τ).loc Cert.MlpVidIdeal.main_arg1)) (m ((c.tc : Thread Cert.MlpVidIdeal.nD Cert.MlpVidIdeal.τ).loc Cert.MlpVidIdeal.main_arg2)) (m ((c.tc : Thread Cert.MlpVidIdeal.nD Cert.MlpVidIdeal.τ).loc Cert.MlpVidIdeal.main_arg3)) (m ((c.tc : Thread Cert.MlpVidIdeal.nD Cert.MlpVidIdeal.τ).loc Cert.MlpVidIdeal.main_arg4)) (m ((c.tc : Thread Cert.MlpVidIdeal.nD Cert.MlpVidIdeal.τ).loc Cert.MlpVidIdeal.main_arg5)) (m ((c.tc : Thread Cert.MlpVidIdeal.nD Cert.MlpVidIdeal.τ).loc Cert.MlpVidIdeal.main_arg6)) (m ((c.tc : Thread Cert.MlpVidIdeal.nD Cert.MlpVidIdeal.τ).loc Cert.MlpVidIdeal.main_arg7)) (m ((c.tc : Thread Cert.MlpVidIdeal.nD Cert.MlpVidIdeal.τ).loc Cert.MlpVidIdeal.main_arg8)), ?_, ?_⟩
  · refine (θ_run _ _ _).mono (fun r hr c => ?_) (θ_run_and (Cert.MlpVidIdeal.Final.run m g) (Cert.MlpVidIdeal.Body.frame m g))
    obtain ⟨e0, e1, e2, e3, e4, e5, e6, e7⟩ := hr.1 c
    exact ⟨e0, e1, e2, e3, e4, e5, e6, e7, hr.2.1 c⟩
  · refine (θ_run _ _ _).mono (fun r hr c => ?_) (θ_run_and (Cert.MlpVidRefIdeal.Final.run m' g') (Cert.MlpVidRefIdeal.Gen.frame m' g'))
    obtain ⟨e0, e1, e2, e3, e4, e5, e6, e7⟩ := hr.1 c
    obtain ⟨h0, h1, h2, h3, h4, h5, h6, h7, h8, h9, h10⟩ := hag c
    rw [h0, h1, h2, h3, h4, h5, h6, h7, h8, h9, h10] at e0
    rw [h1] at e1 e2 e3
    rw [h0, h1, h2, h3, h4] at e4 e5
    rw [h0, h1, h2, h3, h4, h5, h6, h7, h8] at e6 e7
    exact ⟨e0, e1, e2, e3, e4, e5, e6, e7, hr.2.1 c⟩

end Cert.MlpVidAlgebraic

end
-- ==== Proof.lean ====
module

public import proofs.«01_k».proof.Defs
public import proofs.«01_k».proof.Proof.Gen.MlpVid
public import proofs.«01_k».proof.Proof.Gen.MlpVidIdeal
public import proofs.«01_k».proof.Proof.Gen.MlpVidRefIdeal
public import proofs.«01_k».proof.Proof.Gen.MlpVidRefIdeal.Frame
public import proofs.«01_k».proof.Proof.MlpVidFrame
public import proofs.«01_k».proof.Proof.MlpVidIdealFrame
public import proofs.«01_k».proof.Proof.MlpVidAlgebraic

public section

theorem Cert.Proof.claim : Cert.Claim :=
  ⟨Cert.MlpVid.Gen.facts, Cert.MlpVidIdeal.Gen.facts, Cert.MlpVidRefIdeal.Gen.facts,
    fun m ρ _ => Cert.MlpVid.Body.frame m ρ,
    fun m ρ _ => Cert.MlpVidIdeal.Body.frame m ρ,
    fun m ρ _ => Cert.MlpVidRefIdeal.Gen.frame m ρ,
    trivial,
    Cert.MlpVidAlgebraic.algebraic⟩

end
